-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S26x100000x16 : Shape := ⟨3, ![26, 100000, 16]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x16 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100000x16 : Shape := ⟨3, ![26, 100000, 16]⟩
abbrev S3328x128 : Shape := ⟨2, ![3328, 128]⟩
abbrev S2600000x16 : Shape := ⟨2, ![2600000, 16]⟩
abbrev S425984x16 : Shape := ⟨2, ![425984, 16]⟩
abbrev S104x128 : Shape := ⟨2, ![104, 128]⟩
abbrev S128x16 : Shape := ⟨2, ![128, 16]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S16384x416 : Shape := ⟨2, ![16384, 416]⟩

abbrev nBuf : Table → Nat
  | .hbm => 6
  | .local .scVector .vmem => 3
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S3328x128, .i32⟩
  | .hbm, ⟨3, _⟩ => ⟨S2600000x16, .f32⟩
  | .hbm, ⟨4, _⟩ => ⟨S425984x16, .f32⟩
  | .hbm, ⟨5, _⟩ => ⟨S16384x416, .f32⟩
  | .local .scVector .vmem, ⟨0, _⟩ => ⟨S104x128, .i32⟩
  | .local .scVector .vmem, ⟨1, _⟩ => ⟨S128x16, .f32⟩
  | .local .scVector .vmem, ⟨2, _⟩ => ⟨S128x16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v3 : BitVec 32 := Scalar.muli v1 c104_i32
  let c0_i32_10_r0 : BitVec 32 := 0#32
  ![v3.toNat, 0]
@[reducible] def k0_t1_loop : Scf.Loop 32 :=
  let c0_i32 : BitVec 32 := 0#32
  let c104_i32_0 : BitVec 32 := 104#32
  let v5 : BitVec 32 := Scalar.addi c0_i32 c104_i32_0
  let c1_i32 : BitVec 32 := 1#32
  ⟨c0_i32, v5, c1_i32⟩
def k0_off2 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v21 : Index := Scalar.indexCast v11
  let c0 : Index := 0#32
  ![v21.toNat, 0]
def k0_off3 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v36 : Index := Scalar.indexCast v11
  let c16 : Index := 16#32
  ![v36.toNat, 16]
def k0_off4 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v51 : Index := Scalar.indexCast v11
  let c32 : Index := 32#32
  ![v51.toNat, 32]
def k0_off5 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v66 : Index := Scalar.indexCast v11
  let c48 : Index := 48#32
  ![v66.toNat, 48]
def k0_off6 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v81 : Index := Scalar.indexCast v11
  let c64 : Index := 64#32
  ![v81.toNat, 64]
def k0_off7 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v96 : Index := Scalar.indexCast v11
  let c80 : Index := 80#32
  ![v96.toNat, 80]
def k0_off8 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v111 : Index := Scalar.indexCast v11
  let c96 : Index := 96#32
  ![v111.toNat, 96]
def k0_off9 (k0_t1 : Fin k0_t1_loop.trips) : Fin 2 → Nat :=
  let c0_i32_11 : BitVec 32 := 0#32
  let c0_i32 : BitVec 32 := 0#32
  let c1_i32 : BitVec 32 := 1#32
  let arg10 : BitVec 32 := Scf.iv c0_i32 c1_i32 k0_t1
  let c1_i32_10 : BitVec 32 := 1#32
  let v10 : BitVec 32 := Scalar.muli arg10 c1_i32_10
  let v11 : BitVec 32 := Scalar.addi c0_i32_11 v10
  let v126 : Index := Scalar.indexCast v11
  let c112 : Index := 112#32
  ![v126.toNat, 112]
@[reducible] def k0_t2_loop : Scf.Loop 32 :=
  let c0_i32_6 : BitVec 32 := 0#32
  let c104_i32_7 : BitVec 32 := 104#32
  let v9 : BitVec 32 := Scalar.addi c0_i32_6 c104_i32_7
  let c1_i32_8 : BitVec 32 := 1#32
  ⟨c0_i32_6, v9, c1_i32_8⟩
def k0_cond1 (k0_t2 : Fin k0_t2_loop.trips) : BitVec 1 :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c2_i32_12 : BitVec 32 := 2#32
  let v12 : BitVec 32 := Scalar.remsi v11 c2_i32_12
  let c0_i32_13 : BitVec 32 := 0#32
  let v13 : BitVec 1 := Scalar.cmpi .eq v12 c0_i32_13
  let v14 : BitVec 32 := Scalar.extui v13
  let c0_i32_14 : BitVec 32 := 0#32
  let v15 : BitVec 1 := Scalar.cmpi .ne v14 c0_i32_14
  v15

def k0_cond2 (k0_t2 : Fin k0_t2_loop.trips) : BitVec 1 :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c1_i32_18 : BitVec 32 := 1#32
  let v20 : BitVec 32 := Scalar.addi v11 c1_i32_18
  let c104_i32_19 : BitVec 32 := 104#32
  let v21 : BitVec 1 := Scalar.cmpi .slt v20 c104_i32_19
  let v22 : BitVec 32 := Scalar.extui v21
  let c0_i32_20 : BitVec 32 := 0#32
  let v23 : BitVec 1 := Scalar.cmpi .ne v22 c0_i32_20
  v23

def k0_off10 (k0_t2 : Fin k0_t2_loop.trips) : Fin 2 → Nat :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c1_i32_24 : BitVec 32 := 1#32
  let v29 : BitVec 32 := Scalar.addi v11 c1_i32_24
  let c0_i32_25 : BitVec 32 := 0#32
  ![v29.toNat, 0]
def k0_off11 (k0_t2 : Fin k0_t2_loop.trips) : Fin 2 → Nat :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c0_i32_21 : BitVec 32 := 0#32
  ![v11.toNat, 0]
def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c128_i32 : BitVec 32 := 128#32
  let v27 : BitVec 32 := Scalar.muli v11 c128_i32
  let v28 : BitVec 32 := Scalar.addi v2 v27
  let c0_i32_24_r1 : BitVec 32 := 0#32
  ![v28.toNat, 0]
def k0_cond3 (k0_t2 : Fin k0_t2_loop.trips) : BitVec 1 :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c2_i32_15 : BitVec 32 := 2#32
  let v16 : BitVec 32 := Scalar.remsi v11 c2_i32_15
  let c1_i32_16 : BitVec 32 := 1#32
  let v17 : BitVec 1 := Scalar.cmpi .eq v16 c1_i32_16
  let v18 : BitVec 32 := Scalar.extui v17
  let c0_i32_17 : BitVec 32 := 0#32
  let v19 : BitVec 1 := Scalar.cmpi .ne v18 c0_i32_17
  v19

def k0_cond4 (k0_t2 : Fin k0_t2_loop.trips) : BitVec 1 :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c1_i32_18 : BitVec 32 := 1#32
  let v20 : BitVec 32 := Scalar.addi v11 c1_i32_18
  let c104_i32_19 : BitVec 32 := 104#32
  let v21 : BitVec 1 := Scalar.cmpi .slt v20 c104_i32_19
  let v22 : BitVec 32 := Scalar.extui v21
  let c0_i32_20 : BitVec 32 := 0#32
  let v23 : BitVec 1 := Scalar.cmpi .ne v22 c0_i32_20
  v23

def k0_off13 (k0_t2 : Fin k0_t2_loop.trips) : Fin 2 → Nat :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c1_i32_24 : BitVec 32 := 1#32
  let v29 : BitVec 32 := Scalar.addi v11 c1_i32_24
  let c0_i32_25 : BitVec 32 := 0#32
  ![v29.toNat, 0]
def k0_off14 (k0_t2 : Fin k0_t2_loop.trips) : Fin 2 → Nat :=
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c0_i32_21 : BitVec 32 := 0#32
  ![v11.toNat, 0]
def k0_off15 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_11 : BitVec 32 := 0#32
  let c0_i32_6 : BitVec 32 := 0#32
  let c1_i32_8 : BitVec 32 := 1#32
  let arg10 : BitVec 32 := Scf.iv c0_i32_6 c1_i32_8 k0_t2
  let c1_i32_10 : BitVec 32 := 1#32
  let v10 : BitVec 32 := Scalar.muli arg10 c1_i32_10
  let v11 : BitVec 32 := Scalar.addi c0_i32_11 v10
  let c128_i32 : BitVec 32 := 128#32
  let v27 : BitVec 32 := Scalar.muli v11 c128_i32
  let v28 : BitVec 32 := Scalar.addi v2 v27
  let c0_i32_24_r2 : BitVec 32 := 0#32
  ![v28.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩

abbrev nBuf : Space → Nat
  | .hbm => 28
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S26x16384, .i32⟩
  | .hbm, ⟨10, _⟩ => ⟨S26x16384x1, .i32⟩
  | .hbm, ⟨11, _⟩ => ⟨S1, .i32⟩
  | .hbm, ⟨12, _⟩ => ⟨S_, .i32⟩
  | .hbm, ⟨13, _⟩ => ⟨S26x16384x1, .i32⟩
  | .hbm, ⟨14, _⟩ => ⟨S26x16384x1, .i1⟩
  | .hbm, ⟨15, _⟩ => ⟨S1x1x1, .i32⟩
  | .hbm, ⟨16, _⟩ => ⟨S26x16384x1, .i32⟩
  | .hbm, ⟨17, _⟩ => ⟨S26x16384x1, .i1⟩
  | .hbm, ⟨18, _⟩ => ⟨S26x16384x1, .i1⟩
  | .hbm, ⟨19, _⟩ => ⟨S_, .i1⟩
  | .hbm, ⟨20, _⟩ => ⟨S26x16384, .i1⟩
  | .hbm, ⟨21, _⟩ => ⟨S26x16384x16, .f32⟩
  | .hbm, ⟨22, _⟩ => ⟨S26x16384x16, .i1⟩
  | .hbm, ⟨23, _⟩ => ⟨S_, .f32⟩
  | .hbm, ⟨24, _⟩ => ⟨S26x16384x16, .f32⟩
  | .hbm, ⟨25, _⟩ => ⟨S26x16384x16, .f32⟩
  | .hbm, ⟨26, _⟩ => ⟨S16384x26x16, .f32⟩
  | .hbm, ⟨27, _⟩ => ⟨S16384x416, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_c_3 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_cst : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Values.lean ====
/-
  The words and rows this kernel computes, as plain functions of the two argument arrays, and the arithmetic
  that ties the kernel's vector operations to them.

  The index array is read as 3328 rows of 128 words; the word at row `r`, lane `c` has position `128 r + c`, and
  position `p` belongs to table `p mod 26`. The tables are stacked into one array of 2 600 000 rows, so the row wanted
  is the word plus `100000 · (p mod 26)`.
-/
module

public import proofs.«01_k».proof.Proof.Gen.KernelIdeal
public import proofs.«01_k».proof.Proof.Gen.KernelIdeal.Skeleton
public import Idealize.ShloMosaic.Lib.Routing.Words
public import Idealize.ShloMosaic.Lib.ValueLayout
public import Idealize.ShloMosaic.Lib.Affine

@[expose] public section

noncomputable section

namespace Cert.Proof.Lookup

open Cert.KernelIdeal Cert.KernelIdeal.Gen
open Idealize.ShloMosaic Idealize.SL.Sem
open Idealize.ShloMosaic.ValueIdx

variable {F : FTy → Type}

/-! ## What the arrays hold -/

/-- The word added to the index at position `p`: the first row of table `p mod 26`. -/
def shift (p : ℕ) : BitVec 32 := BitVec.ofNat 32 (p % 26 * 100000)

/-- The index array with every word moved to its own table's rows. -/
def moved (X : S3328x128.Idx → BitVec 32) : S3328x128.Idx → BitVec 32 :=
  fun j => X j + shift (128 * (j 0).val + (j 1).val)

/-- The index words are row numbers of one table. -/
def InTable (X : S3328x128.Idx → BitVec 32) : Prop := ∀ j, (X j).toNat < 100000

/-- Under `InTable` a moved word is a row number of the stacked tables, and it is the plain sum. -/
theorem moved_toNat {X : S3328x128.Idx → BitVec 32} (hX : InTable X) (j : S3328x128.Idx) :
    (moved X j).toNat = (X j).toNat + (128 * (j 0).val + (j 1).val) % 26 * 100000 := by
  have h := hX j
  have h26 : (128 * (j 0).val + (j 1).val) % 26 < 26 := Nat.mod_lt _ (by decide)
  unfold moved shift
  rw [BitVec.toNat_add, BitVec.toNat_ofNat]
  omega

theorem moved_lt {X : S3328x128.Idx → BitVec 32} (hX : InTable X) (j : S3328x128.Idx) :
    (moved X j).toNat < 2600000 := by
  have h := hX j
  have h26 : (128 * (j 0).val + (j 1).val) % 26 < 26 := Nat.mod_lt _ (by decide)
  rw [moved_toNat hX]
  omega

/-- The stacked-table row that output row `r` is copied from. -/
def source (X : S3328x128.Idx → BitVec 32) (r : Fin 425984) : Fin 2600000 :=
  ⟨(moved X (ix2 ⟨r.val / 128, by omega⟩ ⟨r.val % 128, Nat.mod_lt _ (by decide)⟩)).toNat % 2600000,
    Nat.mod_lt _ (by decide)⟩

/-- The output array: row `r` is the stacked tables' row `source X r`. -/
def gathered {α : Type} (X : S3328x128.Idx → BitVec 32) (T : S2600000x16.Idx → α) : S425984x16.Idx → α :=
  fun j => T (ix2 (source X (j 0)) (j 1))

/-- Tile `w`'s list of row numbers once its first `n` words have been moved. -/
def listAt (X : S3328x128.Idx → BitVec 32) (w : Fin 32) (n : ℕ) : S104x128.Idx → BitVec 32 :=
  fun j =>
    let p : S3328x128.Idx := ix2 ⟨104 * w.val + (j 0).val, by have := idx2_lt0 j; omega⟩ (j 1)
    if 128 * (j 0).val + (j 1).val < n then moved X p else X p

/-! ## Sixteen words at a time -/

/-- What the kernel stores over sixteen loaded words whose first has position `base`: each word plus
    `100000 · (position mod 26)`. -/
def addRow (base : BitVec 32) (x : Vec F S1x16 .i32) : IVec S1x16 32 :=
  shapeCast S1x16
    (addi (shapeCast S16 x shapeCasts_S1x16_S16)
      (muli (remsi (addi (broadcast S16 base) (iota .scVector S16 32 [0] iota_S16_d0_w32_scVector)) (broadcast S16 26#32))
        (broadcast S16 100000#32)))
    shapeCasts_S16_S1x16

/-- Lane by lane: the word at lane `l` gets `shift` of its position. -/
theorem addRow_apply (p : ℕ) (hp : p + 16 < 2 ^ 31) (x : Vec F S1x16 .i32) (u : Fin 1) (l : Fin 16) :
    addRow (F := F) (BitVec.ofNat 32 p) x (ix2 u l) = x (ix2 u l) + shift (p + l.val) := by
  have hl := l.isLt
  have hu : u = 0 := Subsingleton.elim _ _
  subst hu
  refine (shapeCast_a_1a_apply (a := 16) _ shapeCasts_S16_S1x16 0 l).trans ?_
  have e1 : shapeCast S16 x shapeCasts_S1x16_S16 (ix1 l) = x (ix2 (0 : Fin 1) l) := shapeCast_1a_a_apply (a := 16) x _ l
  have e2 : iota .scVector S16 32 [0] iota_S16_d0_w32_scVector (ix1 l) = BitVec.ofNat 32 l.val :=
    iota_single_apply _ S16 32 (0 : Fin 1) _ (ix1 l)
  have e3 : IntOp.remsi .vector (BitVec.ofNat 32 p + BitVec.ofNat 32 l.val) (BitVec.ofNat 32 26) = BitVec.ofNat 32 ((p + l.val) % 26) := by
    rw [← BitVec.ofNat_add, Routing.remsi_word _ (by omega) (by decide) (by decide)]
  have e4 : BitVec.ofNat 32 ((p + l.val) % 26) * BitVec.ofNat 32 100000 = shift (p + l.val) := by
    rw [← BitVec.ofNat_mul]; rfl
  show shapeCast S16 x _ (ix1 l) + IntOp.remsi .vector (BitVec.ofNat 32 p + iota .scVector S16 32 [0] _ (ix1 l)) (BitVec.ofNat 32 26)
    * BitVec.ofNat 32 100000 = _
  rw [e1, e2, e3, e4]

/-- The list through one store: writing the moved words over lanes `16 v … 16 v + 15` of row `g` takes the list from
    `128 g + 16 v` moved words to sixteen more. -/
theorem write_addRow (X : S3328x128.Idx → BitVec 32) (w : Fin 32) (g v : ℕ) (hg : g < 104) (hv : v < 8)
    (off : Fin 2 → ℕ) (hoff : off = ![g, 16 * v]) (inb : ∀ a, off a + S1x16.size a ≤ S104x128.size a)
    (base : BitVec 32) (hb : base = BitVec.ofNat 32 (13312 * w.val + 128 * g + 16 * v)) :
    ((Memref.whole cc0_scratch0).access (Rect.unit (s := S104x128) off S1x16.size inb)).write (Elt F) (listAt X w (128 * g + 16 * v))
      (addRow (F := F) base ((Memref.whole cc0_scratch0).view.readAt (Elt F) (Rect.unit (s := S104x128) off S1x16.size inb).toLoadRect
        (listAt X w (128 * g + 16 * v)))) Finset.univ
      = listAt X w (128 * g + 16 * v + 16) := by
  subst hoff hb
  have hw := w.isLt
  funext i
  have hi0 := idx2_lt0 (n0 := 104) (n1 := 128) i
  have hi1 : (i 1).val < 128 := (i 1).isLt
  by_cases hm : (i 0).val = g ∧ 16 * v ≤ (i 1).val ∧ (i 1).val < 16 * v + 16
  · obtain ⟨h0, h1, h2⟩ := hm
    let y : S1x16.Idx := ix2 (0 : Fin 1) ⟨(i 1).val - 16 * v, by omega⟩
    have hy : ((Memref.whole cc0_scratch0).access (Rect.unit (s := S104x128) ![g, 16 * v] S1x16.size inb)).emb y = i := by
      refine Shape.idx_ext₂ (n := S104x128.size) ?_ ?_
      · show g + 1 * 0 = (i 0).val
        omega
      · show 16 * v + 1 * ((i 1).val - 16 * v) = (i 1).val
        omega
    conv_lhs => rw [← hy]
    rw [View.write_emb_of_mem _ _ (Finset.mem_univ y)]
    show addRow (F := F) _ _ y = _
    refine (addRow_apply _ (by omega) _ 0 _).trans ?_
    have hr : (Memref.whole cc0_scratch0).view.readAt (Elt F) (Rect.unit (s := S104x128) ![g, 16 * v] S1x16.size inb).toLoadRect
        (listAt X w (128 * g + 16 * v)) y = listAt X w (128 * g + 16 * v) i :=
      congrArg (listAt X w (128 * g + 16 * v)) hy
    rw [hr]
    unfold listAt
    simp only []
    rw [if_neg (by omega), if_pos (by omega)]
    unfold moved
    refine congrArg (fun z => _ + z) ?_
    unfold shift
    refine congrArg (fun n => BitVec.ofNat 32 (n % 26 * 100000)) ?_
    show 13312 * w.val + 128 * g + 16 * v + ((i 1).val - 16 * v) = 128 * (104 * w.val + (i 0).val) + (i 1).val
    omega
  · rw [View.write_of_not_mem _ _ _ (fun hc => hm ?_)]
    · unfold listAt
      simp only []
      by_cases hc : 128 * (i 0).val + (i 1).val < 128 * g + 16 * v
      · rw [if_pos hc, if_pos (by omega)]
      · rw [if_neg hc, if_neg (by omega)]
    · obtain ⟨y, -, hy⟩ := Finset.mem_map.mp hc
      have hl : (y 1).val < 16 := (y 1).isLt
      have hz : (y 0).val < 1 := (y 0).isLt
      have e0 : (i 0).val = g + 1 * (y 0).val := by rw [← hy]; rfl
      have e1 : (i 1).val = 16 * v + 1 * (y 1).val := by rw [← hy]; rfl
      omega

end Cert.Proof.Lookup
-- ==== Proof.Setup.lean ====
/-
  The launch this kernel makes, as the SparseCore launch theorem reads it: the call's facts, the buffers it works on,
  how they are dealt to the thirty-two vector subcores, and what a subcore is handed and hands back.

  Subcore `(c, s)` is worker `2 s + c`. Worker `w` owns rows `104 w …` of the index array and rows `13312 w …` of the
  output; every worker reads the whole stacked table, at one thirty-second of its share.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The call -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct and unscoped, and the call shares no buffer between subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev tLoc (d : Dev nD) : Loc nD τ sig := (SparseCore.T d).loc main_arg1
abbrev idxLoc (d : Dev nD) : Loc nD τ sig := (SparseCore.T d).loc main_v0
abbrev tabLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The worker of subcore `s` on SparseCore `c`. -/
def worker (c : Fin 2) (s : Fin 16) : Fin 32 := ⟨2 * s.val + c.val, by omega⟩

/-- The workers are the pairs of a SparseCore and a subcore. -/
def workers : Fin 2 × Fin 16 ≃ Fin 32 where
  toFun p := worker p.1 p.2
  invFun w := (⟨w.val % 2, Nat.mod_lt _ (by decide)⟩, ⟨w.val / 2, by omega⟩)
  left_inv p := by
    have h1 := p.1.isLt
    refine Prod.ext (Fin.ext ?_) (Fin.ext ?_)
    · show (2 * p.2.val + p.1.val) % 2 = p.1.val
      omega
    · show (2 * p.2.val + p.1.val) / 2 = p.2.val
      omega
  right_inv w := Fin.ext (by show 2 * (w.val / 2) + w.val % 2 = w.val; omega)

/-- The worker whose rows hold index element `j`. -/
def idxOwner (j : S3328x128.Idx) : Fin 32 := ⟨(j 0).val / 104, by have : (j 0).val < 3328 := (j 0).isLt; omega⟩
/-- The worker whose rows hold output element `j`. -/
def outOwner (j : S425984x16.Idx) : Fin 32 := ⟨(j 0).val / 13312, by have : (j 0).val < 425984 := (j 0).isLt; omega⟩

/-- Worker `w`'s index elements, and its output elements. -/
def idxSet (w : Fin 32) : Finset S3328x128.Idx := Finset.univ.filter fun j => idxOwner j = w
def outSet (w : Fin 32) : Finset S425984x16.Idx := Finset.univ.filter fun j => outOwner j = w

theorem mem_idxSet {w : Fin 32} {j : S3328x128.Idx} : j ∈ idxSet w ↔ 104 * w.val ≤ (j 0).val ∧ (j 0).val < 104 * w.val + 104 := by
  unfold idxSet idxOwner
  simp only [Finset.mem_filter, Finset.mem_univ, true_and, Fin.ext_iff]
  omega

theorem mem_outSet {w : Fin 32} {j : S425984x16.Idx} : j ∈ outSet w ↔ 13312 * w.val ≤ (j 0).val ∧ (j 0).val < 13312 * w.val + 13312 := by
  unfold outSet outOwner
  simp only [Finset.mem_filter, Finset.mem_univ, true_and, Fin.ext_iff]
  omega

/-- Worker `w`'s share of the table, and the two halves of it the two row buffers use. -/
abbrev tabShare (w : Fin 32) : PosShare TreeShare := pieceOf fullShare 32 (by decide) w

/-! ## What is handed over -/

/-- The index array and the stacked table on each device, as the call finds them. -/
structure Given (F : FTy → Type) where
  idx : S3328x128.Idx → BitVec 32
  tab : S2600000x16.Idx → F .f32

section Parts
variable (A : Dev nD → Given F) (d : Dev nD)

abbrev idxPart (w : Fin 32) : sProp 𝕄 := idxLoc d ↦[idxSet w]{fullShare} (A d).idx
abbrev tabPart (w : Fin 32) : sProp 𝕄 := tabLoc d ↦{tabShare w} (A d).tab
abbrev outPart (w : Fin 32) (f : Buf (Elt F) (outLoc d)) : sProp 𝕄 := outLoc d ↦[outSet w]{fullShare} f

/-- The output the call leaves. -/
abbrev answer : Buf (Elt F) (outLoc d) := gathered (A d).idx (A d).tab

/-- What worker `w` starts from: its index rows, its share of the table, its output rows at any contents. -/
abbrev goPart (w : Fin 32) : sProp 𝕄 := iprop(idxPart A d w ∗ tabPart A d w ∗ ∃ f, outPart d w f)
/-- What worker `w` hands back: the same, the output rows at the answer. -/
abbrev tdPart (w : Fin 32) : sProp 𝕄 := iprop(idxPart A d w ∗ tabPart A d w ∗ outPart d w (answer A d))

end Parts

/-- The call hands each SparseCore its sixteen workers' parts, and gets them back. -/
def P (A : Dev nD → Given F) : (K (F := F)).Pay (nD := nD) (Val := Elt F) (Name := ℕ) (U := UU) where
  st := fun q d c => match q with
    | 0 => bigSep Finset.univ fun s : Fin 16 => goPart A d (worker (Fin.cast nCore_zero c) s)
  dn := fun q d c => match q with
    | 0 => bigSep Finset.univ fun s : Fin 16 => tdPart A d (worker (Fin.cast nCore_zero c) s)
  go := fun q d c i => match q with | 0 => goPart A d (worker (Fin.cast nCore_zero c) (Fin.cast nSub_zero i))
  td := fun q d c i => match q with | 0 => tdPart A d (worker (Fin.cast nCore_zero c) (Fin.cast nSub_zero i))
  x := fun _ _ => iprop(emp)

instance P_storable (A : Dev nD → Given F) : (P A).IsStorable where
  st q d c := match q with
    | 0 => (inferInstance : BI.Storable (upEmb : UEmb _ 𝕄) (bigSep Finset.univ fun s : Fin 16 => goPart A d (worker (Fin.cast nCore_zero c) s)))
  dn q d c := match q with
    | 0 => (inferInstance : BI.Storable (upEmb : UEmb _ 𝕄) (bigSep Finset.univ fun s : Fin 16 => tdPart A d (worker (Fin.cast nCore_zero c) s)))
  go q d c i := match q with
    | 0 => (inferInstance : BI.Storable (upEmb : UEmb _ 𝕄) (goPart A d (worker (Fin.cast nCore_zero c) (Fin.cast nSub_zero i))))
  td q d c i := match q with
    | 0 => (inferInstance : BI.Storable (upEmb : UEmb _ 𝕄) (tdPart A d (worker (Fin.cast nCore_zero c) (Fin.cast nSub_zero i))))

/-! ## The subcore's place -/

abbrev cV (L : grid0.Coords) : Fin τ.nSC := (L 0).castLE hcore0
abbrev jV (L : grid0.Coords) : Fin τ.nSub := (L 1).castLE hsub0
/-- The worker at grid position `L`. -/
abbrev wV (L : grid0.Coords) : Fin 32 := worker (L 0) (L 1)

end Cert.Proof.Lookup
-- ==== Proof.Parts.lean ====
/-
  The call's operands, shared out: the index array and the output array are each the 32 workers' rows, the table is 32
  equal shares of itself; and a SparseCore's part of the call is its sixteen subcores' parts.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A family over the workers, collected by SparseCore and subcore. -/
theorem bigSep_workers (Φ : Fin 32 → sProp 𝕄) :
    bigSep Finset.univ Φ = bigSep Finset.univ fun c : Fin 2 => bigSep Finset.univ fun s : Fin 16 => Φ (worker c s) :=
  (bigSep_univ_equiv workers Φ).trans (bigSep_univ_prod fun p : Fin 2 × Fin 16 => Φ (worker p.1 p.2))

section Parts
variable (A : Dev nD → Given F) (d : Dev nD)

theorem idx_parts (f : Buf (Elt F) (idxLoc d)) :
    (idxLoc d ↦{fullShare} f : sProp 𝕄) = bigSep Finset.univ fun w : Fin 32 => idxLoc d ↦[idxSet w]{fullShare} f := by
  have cover : (Finset.univ : Finset (Fin 32)).biUnion idxSet = (Finset.univ : Finset S3328x128.Idx) :=
    Finset.eq_univ_of_forall fun j => Finset.mem_biUnion.mpr ⟨idxOwner j, Finset.mem_univ _, Finset.mem_filter.mpr ⟨Finset.mem_univ _, rfl⟩⟩
  refine Eq.trans ?_ (pointsTo_biUnion (ℓ := idxLoc d) (Finset.univ : Finset (Fin 32)) idxSet ?_)
  · exact congrArg (fun I : Finset S3328x128.Idx => (idxLoc d ↦[I]{fullShare} f : sProp 𝕄)) cover.symm
  · exact fun w _ w' _ h => Finset.disjoint_left.mpr fun j hj hj' =>
      h ((Finset.mem_filter.mp hj).2.symm.trans (Finset.mem_filter.mp hj').2)

theorem out_parts (f : Buf (Elt F) (outLoc d)) :
    (outLoc d ↦{fullShare} f : sProp 𝕄) = bigSep Finset.univ fun w : Fin 32 => outPart d w f := by
  have cover : (Finset.univ : Finset (Fin 32)).biUnion outSet = (Finset.univ : Finset S425984x16.Idx) :=
    Finset.eq_univ_of_forall fun j => Finset.mem_biUnion.mpr ⟨outOwner j, Finset.mem_univ _, Finset.mem_filter.mpr ⟨Finset.mem_univ _, rfl⟩⟩
  refine Eq.trans ?_ (pointsTo_biUnion (ℓ := outLoc d) (Finset.univ : Finset (Fin 32)) outSet ?_)
  · exact congrArg (fun I : Finset S425984x16.Idx => (outLoc d ↦[I]{fullShare} f : sProp 𝕄)) cover.symm
  · exact fun w _ w' _ h => Finset.disjoint_left.mpr fun j hj hj' =>
      h ((Finset.mem_filter.mp hj).2.symm.trans (Finset.mem_filter.mp hj').2)

theorem tab_parts (f : Buf (Elt F) (tabLoc d)) :
    (tabLoc d ↦{fullShare} f : sProp 𝕄) = bigSep Finset.univ fun w : Fin 32 => tabLoc d ↦{tabShare w} f :=
  pointsTo_piecesOf Finset.univ f (by decide) fullShare

/-- What the call takes: the index array, the table, and the output array at any contents of its parts. -/
theorem starts_eq :
    (bigSep Finset.univ fun c : Fin ((K (F := F)).nCore 0) => (P A).st 0 d c)
      = iprop((idxLoc d ↦{fullShare} (A d).idx) ∗ (tabLoc d ↦{fullShare} (A d).tab) ∗ bigSep Finset.univ fun w : Fin 32 => iprop(∃ f, outPart d w f)) := by
  rw [idx_parts, tab_parts, ← bigSep_sep', ← bigSep_sep']
  exact (bigSep_workers fun w => goPart A d w).symm

/-- What it hands back: the same, the output array holding the answer. -/
theorem dones_eq :
    (bigSep Finset.univ fun c : Fin ((K (F := F)).nCore 0) => (P A).dn 0 d c)
      = iprop((idxLoc d ↦{fullShare} (A d).idx) ∗ (tabLoc d ↦{fullShare} (A d).tab) ∗ outLoc d ↦{fullShare} answer A d) := by
  rw [idx_parts, tab_parts, out_parts, ← bigSep_sep', ← bigSep_sep']
  exact (bigSep_workers fun w => tdPart A d w).symm

/-- The output array, at whatever it holds, gives every worker its rows. -/
theorem out_start (f : Buf (Elt F) (outLoc d)) :
    (outLoc d ↦{fullShare} f : sProp 𝕄) ⊢ bigSep Finset.univ fun w : Fin 32 => iprop(∃ f, outPart d w f) := by
  rw [out_parts]
  refine bigSep_mono fun w _ => ?_
  show outPart d w f ⊢ iprop(∃ f, outPart d w f)
  iintro H
  iexists f
  iexact H

/-- A SparseCore's part of the call is its subcores' parts, there and back. -/
theorem vecSplit : (K (F := F)).VecSplit' (P A) 0 := by
  intro d c
  have tasks : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun s : Fin 16 => goPart A d (worker (Fin.cast nCore_zero c) s)) ⊢ |={Set.univ}=> iprop(
    (bigSep Finset.univ fun i : Fin ((K (F := F)).nSub 0) => goPart A d (worker (Fin.cast nCore_zero c) (Fin.cast nSub_zero i)))
    ∗ ((bigSep Finset.univ fun i : Fin ((K (F := F)).nSub 0) => tdPart A d (worker (Fin.cast nCore_zero c) (Fin.cast nSub_zero i)))
      -∗ bigSep Finset.univ fun s : Fin 16 => tdPart A d (worker (Fin.cast nCore_zero c) s)))
  rw [tasks fun s => goPart A d (worker (Fin.cast nCore_zero c) s), tasks fun s => tdPart A d (worker (Fin.cast nCore_zero c) s)]
  iintro H
  imodintro
  isplitl [H]; · iexact H
  iintro H
  iexact H

end Parts

end Cert.Proof.Lookup
-- ==== Proof.Adjust.lean ====
/-
  The kernel's first loop on one vector subcore: trip `g` moves the 128 words of row `g` of the subcore's list of row
  numbers, sixteen at a time. Each sixteen are loaded, loaded once more (the second result is not used) and stored back
  moved; one lemma covers such a group, and a trip is that lemma eight times.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "listV" => (Memref.whole Cert.KernelIdeal.cc0_scratch0 : Memref Cert.KernelIdeal.sig Kind.scVector Space.vmem Cert.KernelIdeal.S104x128 EltTy.i32)

/-! ## The word the kernel computes a group's positions from -/

/-- The position of the first word of a trip's group, as the kernel computes it in 32-bit words. -/
theorem base_word (w t n : ℕ) (c : BitVec 32) (hc : c = BitVec.ofNat 32 n) (v2 : BitVec 32) (hv2 : v2 = BitVec.ofNat 32 (13312 * w)) :
    Scalar.addi (Scalar.addi v2 (Scalar.muli (Scalar.addi 0#32 (Scalar.muli (Scf.iv 0#32 1#32 t) 1#32)) 128#32)) c
      = BitVec.ofNat 32 (13312 * w + 128 * t + n) := by
  subst hc hv2
  show BitVec.ofNat 32 (13312 * w) + (0#32 + (0#32 + BitVec.ofNat 32 t * 1#32) * 1#32) * 128#32 + BitVec.ofNat 32 n = _
  rw [BitVec.mul_one, BitVec.mul_one, BitVec.zero_add, BitVec.zero_add, show (128#32 : BitVec 32) = BitVec.ofNat 32 128 from rfl,
    ← BitVec.ofNat_mul, ← BitVec.ofNat_add, ← BitVec.ofNat_add]
  congr 1
  omega

section Tile

variable [FloatOps F] (d : Dev nD) (L : grid0.Coords) (X : S3328x128.Idx → BitVec 32)

/-- The subcore's list, holding tile `wV L`'s row numbers with the first `n` moved. -/
abbrev listPts (n : ℕ) : sProp 𝕄 := (listV).view.loc (V d (cV L) (jV L)) ↦{fullShare} listAt X (wV L) n

/-- One group of sixteen words: the two loads and the store move the words `128 g + 16 v …` of the list. -/
theorem wp_group (g v : ℕ) (hg : g < 104) (hv : v < 8) {off : Fin 2 → ℕ} (hoff : off = ![g, 16 * v])
    {inb : ∀ a, off a + S1x16.size a ≤ S104x128.size a} {base : BitVec 32}
    (hb : base = BitVec.ofNat 32 (13312 * (wV L).val + 128 * g + 16 * v)) {n n' : ℕ} (hn : n = 128 * g + 16 * v) (hn' : n' = n + 16)
    {hl : (listV).view.LoadsAt (Rect.unit (s := S104x128) off S1x16.size inb).toLoadRect}
    {hx : ((listV).access (Rect.unit (s := S104x128) off S1x16.size inb)).Stores Finset.univ}
    {hm : (Finset.univ : Finset S1x16.Idx) = Finset.univ ∨ ∀ a, (Rect.unit (s := S104x128) off S1x16.size inb).stride a = 1}
    {k : PUnit → Prog (TpuEff nD τ sig (Elt F) Λ₀ (.scVector (cV L) (jV L))) Unit} {Q : Unit → sProp 𝕄} :
    listPts d L X n ⊢ iprop((listPts d L X n' -∗ wp frame (wpE (defs₀ (F := F)) 𝒱₀ (V d (cV L) (jV L)) none) Set.univ (k ⟨⟩) Q)
      -∗ wp frame (wpE (defs₀ (F := F)) 𝒱₀ (V d (cV L) (jV L)) none) Set.univ
          (.op (.load listV (Rect.unit (s := S104x128) off S1x16.size inb).toLoadRect hl) fun x =>
            .op (.load listV (Rect.unit (s := S104x128) off S1x16.size inb).toLoadRect hl) fun _ =>
              .op (.store listV (Rect.unit (s := S104x128) off S1x16.size inb) (addRow (F := F) base x) Finset.univ hx hm) k) Q) := by
  subst hn hn'
  have key := write_addRow (F := F) X (wV L) g v hg hv off hoff inb base hb
  iintro H Hk
  iapply (wp_load 𝒱₀ (V d (cV L) (jV L)) none Set.univ (m := listV) (Finset.subset_univ _)) $$ H
  iintro H
  iapply (wp_load 𝒱₀ (V d (cV L) (jV L)) none Set.univ (m := listV) (Finset.subset_univ _)) $$ H
  iintro H
  iapply (wp_store 𝒱₀ (V d (cV L) (jV L)) none Set.univ (m := listV) (r := Rect.unit (s := S104x128) off S1x16.size inb) (Finset.subset_univ _)) $$ H
  iintro H
  iapply Hk
  iapply (Entails.of_eq (congrArg (fun f : Buf (Elt F) ((V d (cV L) (jV L)).loc cc0_scratch0) =>
    ((V d (cV L) (jV L)).loc cc0_scratch0 ↦{fullShare} f : sProp 𝕄)) key))
  iexact H

local notation "tabV" => (Memref.whole Cert.KernelIdeal.main_v1_scv : Memref Cert.KernelIdeal.sig Kind.scVector Space.hbm Cert.KernelIdeal.S2600000x16 EltTy.f32)
local notation "idxV" => (Memref.whole Cert.KernelIdeal.main_v0_scv : Memref Cert.KernelIdeal.sig Kind.scVector Space.hbm Cert.KernelIdeal.S3328x128 EltTy.i32)
local notation "outV" => (Memref.whole Cert.KernelIdeal.main_v2_scv : Memref Cert.KernelIdeal.sig Kind.scVector Space.hbm Cert.KernelIdeal.S425984x16 EltTy.f32)
local notation "bufA" => (Memref.whole Cert.KernelIdeal.cc0_scratch1 : Memref Cert.KernelIdeal.sig Kind.scVector Space.vmem Cert.KernelIdeal.S128x16 EltTy.f32)
local notation "bufB" => (Memref.whole Cert.KernelIdeal.cc0_scratch2 : Memref Cert.KernelIdeal.sig Kind.scVector Space.vmem Cert.KernelIdeal.S128x16 EltTy.f32)

/-- The first loop's body at this subcore. -/
abbrev trip1 (v2 : BitVec 32) (v4 : IVec S16 32) :
    Fin k0_t1_loop.trips → Unit → Prog (TpuEff nD τ sig (Elt F) Λ₀ (.scVector (cV L) (jV L))) Unit :=
  k0_t1_body L tabV (Memref.isWhole_whole _) idxV (Memref.isWhole_whole _) outV (Memref.isWhole_whole _)
    listV (Memref.isWhole_whole _) bufA (Memref.isWhole_whole _) bufB (Memref.isWhole_whole _)
    cc0_scratch3 cc0_scratch4 cc0_scoped0 cc0_scoped1 cc0_scoped2 v2 v4

/-- Trip `g` moves the 128 words of row `g`. -/
theorem wp_trip1 (g : Fin k0_t1_loop.trips) (v2 : BitVec 32) (hv2 : v2 = BitVec.ofNat 32 (13312 * (wV L).val)) :
    listPts d L X (128 * g.val) ⊢ wp frame (wpE (defs₀ (F := F)) 𝒱₀ (V d (cV L) (jV L)) none) Set.univ
      (trip1 (F := F) L v2 (iota .scVector S16 32 [0] iota_S16_d0_w32_scVector) g ()) fun _ => listPts d L X (128 * (g.val + 1)) := by
  have hg : g.val < 104 := lt_of_lt_of_le g.isLt k0_t1_abs.2.1
  have hb := fun (n : ℕ) (c : BitVec 32) (hc : c = BitVec.ofNat 32 n) => base_word (wV L).val g.val n c hc v2 hv2
  unfold trip1 k0_t1_body
  simp only [k0_part1_eq_skeleton, k0_part2_eq_skeleton]
  unfold k0_part1_skel k0_part2_skel
  simp only [Prog.lift, Prog.bind_op, Prog.bind_ret, Prog.pure_eq_ret, Prog.bind_assoc]
  iintro H
  iapply (wp_group d L X g.val 0 hg (by decide) (k0_off2_eq g) (hb 0 0#32 rfl) (by omega) rfl) $$ H
  iintro H
  iapply (wp_group d L X g.val 1 hg (by decide) (k0_off3_eq g) (hb 16 16#32 rfl) (by omega) rfl) $$ H
  iintro H
  iapply (wp_group d L X g.val 2 hg (by decide) (k0_off4_eq g) (hb 32 32#32 rfl) (by omega) rfl) $$ H
  iintro H
  iapply (wp_group d L X g.val 3 hg (by decide) (k0_off5_eq g) (hb 48 48#32 rfl) (by omega) rfl) $$ H
  iintro H
  iapply (wp_group d L X g.val 4 hg (by decide) (k0_off6_eq g) (hb 64 64#32 rfl) (by omega) rfl) $$ H
  iintro H
  iapply (wp_group d L X g.val 5 hg (by decide) (k0_off7_eq g) (hb 80 80#32 rfl) (by omega) rfl) $$ H
  iintro H
  iapply (wp_group d L X g.val 6 hg (by decide) (k0_off8_eq g) (hb 96 96#32 rfl) (by omega) rfl) $$ H
  iintro H
  iapply (wp_group d L X g.val 7 hg (by decide) (k0_off9_eq g) (hb 112 112#32 rfl) (by omega) rfl) $$ H
  iintro H
  sl_step
  rw [show 128 * (g.val + 1) = 128 * g.val + 16 * 7 + 16 by omega]
  iexact H

end Tile

end Cert.Proof.Lookup
-- ==== Proof.Rows.lean ====
/-
  What the second loop's transfers read and write, as functions: the 128 rows an indirect gather fetches for row `g` of
  a worker's list, and the effect of copying them out to the worker's output rows.
-/
module

public import proofs.«01_k».proof.Proof.Setup

@[expose] public section

noncomputable section

namespace Cert.Proof.Lookup

open Cert.KernelIdeal Cert.KernelIdeal.Gen
open Idealize.ShloMosaic Idealize.SL.Sem
open Idealize.ShloMosaic.ValueIdx

variable {F : FTy → Type}

local notation "listV" => (Memref.whole Cert.KernelIdeal.cc0_scratch0 : Memref Cert.KernelIdeal.sig Kind.scVector Space.vmem Cert.KernelIdeal.S104x128 EltTy.i32)
local notation "tabV" => (Memref.whole Cert.KernelIdeal.main_v1_scv : Memref Cert.KernelIdeal.sig Kind.scVector Space.hbm Cert.KernelIdeal.S2600000x16 EltTy.f32)
local notation "idxV" => (Memref.whole Cert.KernelIdeal.main_v0_scv : Memref Cert.KernelIdeal.sig Kind.scVector Space.hbm Cert.KernelIdeal.S3328x128 EltTy.i32)
local notation "outV" => (Memref.whole Cert.KernelIdeal.main_v2_scv : Memref Cert.KernelIdeal.sig Kind.scVector Space.hbm Cert.KernelIdeal.S425984x16 EltTy.f32)

/-! ## The memrefs the kernel cuts -/

/-- The whole table, as the kernel addresses it. -/
abbrev tabAll : Memref sig .scVector .hbm S2600000x16 .f32 :=
  (tabV).slice (Rect.unit (s := S2600000x16) ![0, 0] S2600000x16.size inb_S2600000x16_S2600000x16_0_0) (fun _ => rfl)
/-- One row of the list. -/
abbrev listRow (off : Fin 2 → ℕ) (inb : ∀ a, off a + S1x128.size a ≤ S104x128.size a) : Memref sig .scVector .vmem S128 .i32 :=
  ((listV).slice (Rect.unit (s := S104x128) off S1x128.size inb) (fun _ => rfl)).squeeze S128 squeezes_S1x128_S128
/-- 128 rows of the output. -/
abbrev outRows (off : Fin 2 → ℕ) (inb : ∀ a, off a + S128x16.size a ≤ S425984x16.size a) : Memref sig .scVector .hbm S128x16 .f32 :=
  (outV).slice (Rect.unit (s := S425984x16) off S128x16.size inb) (fun _ => rfl)
/-- A worker's rows of the index array. -/
abbrev idxRows (off : Fin 2 → ℕ) (inb : ∀ a, off a + S104x128.size a ≤ S3328x128.size a) : Memref sig .scVector .hbm S104x128 .i32 :=
  (idxV).slice (Rect.unit (s := S3328x128) off S104x128.size inb) (fun _ => rfl)

theorem tabAll_emb (x : S2600000x16.Idx) : (tabAll).view.emb x = x :=
  Shape.idx_ext₂ (n := S2600000x16.size) (show 0 + 1 * (x 0).val = (x 0).val by omega) (show 0 + 1 * (x 1).val = (x 1).val by omega)

theorem tabAll_set : (tabAll).view.set = Finset.univ :=
  Finset.eq_univ_iff_forall.mpr fun x => Finset.mem_map.mpr ⟨x, Finset.mem_univ _, tabAll_emb x⟩

theorem tabAll_read (T : S2600000x16.Idx → F .f32) : (tabAll).view.read (Elt F) T = T :=
  funext fun x => congrArg T (tabAll_emb x)

/-- Lane `x` of list row `g` is the list's element `(g, x)`. -/
theorem listRow_emb {off : Fin 2 → ℕ} {inb} (g : Fin 104) (hoff : off = ![g.val, 0]) (x : S128.Idx) :
    (listRow off inb).view.emb x = ix2 g (x 0) := by
  subst hoff
  have e : Shape.reshapeEquiv squeezes_S1x128_S128.numel_eq x = (ix2 (0 : Fin 1) (x 0) : S1x128.Idx) :=
    Shape.reshapeEquiv_eq_of_rowMajor _ (by
      rw [Shape.rowMajor_val_two, Shape.rowMajor_val_one]
      show 0 * 128 + (x 0).val = (x 0).val
      omega)
  show (Rect.unit (s := S104x128) ![g.val, 0] S1x128.size inb).emb (Shape.reshapeEquiv squeezes_S1x128_S128.numel_eq x) = _
  rw [e]
  exact Shape.idx_ext₂ (n := S104x128.size) (show g.val + 1 * 0 = g.val by omega) (show 0 + 1 * (x 0).val = (x 0).val by omega)

theorem listRow_read {off : Fin 2 → ℕ} {inb} (g : Fin 104) (hoff : off = ![g.val, 0]) (f : S104x128.Idx → BitVec 32) (x : S128.Idx) :
    (listRow off inb).view.read (Elt F) f x = f (ix2 g (x 0)) :=
  congrArg f (listRow_emb g hoff x)

/-! ## The finished list -/

/-- The list once every row has been moved. -/
abbrev listDone (X : S3328x128.Idx → BitVec 32) (w : Fin 32) : S104x128.Idx → BitVec 32 := listAt X w (128 * 104)

theorem listDone_apply (X : S3328x128.Idx → BitVec 32) (w : Fin 32) (g : Fin 104) (c : Fin 128) :
    listDone X w (ix2 g c) = moved X (ix2 ⟨104 * w.val + g.val, by omega⟩ c) := by
  unfold listDone listAt
  exact if_pos (show 128 * g.val + c.val < 128 * 104 by omega)

/-- Every word of the finished list is a row number of the stacked tables. -/
theorem listRow_lt {X : S3328x128.Idx → BitVec 32} (hX : InTable X) (w : Fin 32) {off : Fin 2 → ℕ} {inb} (g : Fin 104)
    (hoff : off = ![g.val, 0]) (x : S128.Idx) :
    ((listRow off inb).view.read (Elt F) (listDone X w) x).toNat < S2600000x16.size gathers_S2600000x16_S128x16.axis := by
  rw [listRow_read g hoff]
  exact (congrArg BitVec.toNat (listDone_apply X w g (x 0))).trans_lt (moved_lt hX _)

/-! ## The 128 rows of one gather -/

/-- The output row the gather for list row `g` fetches at its row `i`. -/
def rowAt (w : Fin 32) (g : Fin 104) (i : Fin 128) : Fin 425984 := ⟨13312 * w.val + 128 * g.val + i.val, by omega⟩

/-- The rows worker `w` fetches for row `g` of its list. -/
def rowsOf {α : Type} (X : S3328x128.Idx → BitVec 32) (T : S2600000x16.Idx → α) (w : Fin 32) (g : Fin 104) : S128x16.Idx → α :=
  fun j => gathered X T (ix2 (rowAt w g (j 0)) (j 1))

theorem source_rowAt {X : S3328x128.Idx → BitVec 32} (hX : InTable X) (w : Fin 32) (g : Fin 104) (i : Fin 128) :
    (source X (rowAt w g i)).val = (listDone X w (ix2 g i)).toNat := by
  have hi := i.isLt
  rw [listDone_apply]
  have e : (ix2 ⟨(rowAt w g i).val / 128, by have := (rowAt w g i).isLt; omega⟩ ⟨(rowAt w g i).val % 128, Nat.mod_lt _ (by decide)⟩ : S3328x128.Idx)
      = ix2 ⟨104 * w.val + g.val, by omega⟩ i :=
    Shape.idx_ext₂ (n := S3328x128.size) (by show (13312 * w.val + 128 * g.val + i.val) / 128 = 104 * w.val + g.val; omega)
      (by show (13312 * w.val + 128 * g.val + i.val) % 128 = i.val; omega)
  unfold source
  show (moved X _).toNat % 2600000 = _
  rw [e, Nat.mod_eq_of_lt (moved_lt hX _)]

/-- What the gather over list row `g` delivers is `rowsOf`. -/
theorem gather_rowsOf {X : S3328x128.Idx → BitVec 32} (hX : InTable X) (T : S2600000x16.Idx → F .f32) (w : Fin 32)
    {off : Fin 2 → ℕ} {inb} (g : Fin 104) (hoff : off = ![g.val, 0])
    (hn : S128.numel = S128x16.size gathers_S2600000x16_S128x16.axis')
    (hin : ∀ x, ((listRow off inb).view.read (Elt F) (listDone X w) x).toNat < S2600000x16.size gathers_S2600000x16_S128x16.axis) :
    SparseCore.gatherPayload (F := F) (e := .f32) gathers_S2600000x16_S128x16 ((tabAll).view.read (Elt F) T)
      (SparseCore.rows ((listRow off inb).view.read (Elt F) (listDone X w)) hn hin) = rowsOf X T w g := by
  funext j
  rw [tabAll_read]
  unfold SparseCore.gatherPayload rowsOf gathered
  refine congrArg T (Shape.idx_ext₂ (n := S2600000x16.size) ?_ ?_)
  · have ha := Shape.Gathers.idx_axis gathers_S2600000x16_S128x16
      (SparseCore.rows ((listRow off inb).view.read (Elt F) (listDone X w)) hn hin) j
    refine (congrArg Fin.val ha).trans ?_
    show ((listRow off inb).view.read (Elt F) (listDone X w) _).toNat = (source X (rowAt w g (j 0))).val
    rw [listRow_read g hoff]
    refine Eq.trans ?_ (source_rowAt hX w g (j 0)).symm
    refine congrArg (fun i : Fin 128 => (listDone X w (ix2 g i)).toNat) (Fin.ext ?_)
    generalize hk : S128.rowMajor.symm _ = x
    have := congrArg Fin.val ((Equiv.symm_apply_eq _).mp hk)
    rw [Shape.rowMajor_val_one] at this
    exact this.symm
  · exact Shape.Gathers.idx_of_ne gathers_S2600000x16_S128x16 _ j 1 (by decide)

/-! ## The copies out -/

/-- The first `n` groups of worker `w`'s output rows hold the answer. -/
def Written {α : Type} (X : S3328x128.Idx → BitVec 32) (T : S2600000x16.Idx → α) (w : Fin 32) (n : ℕ) (f : S425984x16.Idx → α) : Prop :=
  ∀ j ∈ outSet w, (j 0).val < 13312 * w.val + 128 * n → f j = gathered X T j

theorem written_zero {α : Type} (X : S3328x128.Idx → BitVec 32) (T : S2600000x16.Idx → α) (w : Fin 32) (f : S425984x16.Idx → α) :
    Written X T w 0 f := fun j hj h => absurd (mem_outSet.mp hj).1 (by omega)

theorem outRows_subset (w : Fin 32) {off : Fin 2 → ℕ} {inb} (g : Fin 104) (hoff : off = ![13312 * w.val + 128 * g.val, 0]) :
    (outRows off inb).view.set ⊆ outSet w := by
  subst hoff
  intro j hj
  obtain ⟨y, -, rfl⟩ := Finset.mem_map.mp hj
  have hy : (y 0).val < 128 := (y 0).isLt
  have hg := g.isLt
  have e : ((outRows ![13312 * w.val + 128 * g.val, 0] inb).view.emb y 0).val = 13312 * w.val + 128 * g.val + 1 * (y 0).val := rfl
  exact mem_outSet.mpr ⟨by omega, by omega⟩

/-- Copying the rows of list row `g` out extends the written part by one group. -/
theorem written_succ {X : S3328x128.Idx → BitVec 32} {T : S2600000x16.Idx → F .f32} (w : Fin 32) {off : Fin 2 → ℕ} {inb} (g : Fin 104)
    (hoff : off = ![13312 * w.val + 128 * g.val, 0]) {f : S425984x16.Idx → F .f32} (hf : Written X T w g.val f) :
    Written X T w (g.val + 1) ((outRows off inb).view.write (Elt F) f (rowsOf X T w g) Finset.univ) := by
  subst hoff
  intro j hj hlt
  have hj1 := mem_outSet.mp hj
  by_cases h : (j 0).val < 13312 * w.val + 128 * g.val
  · rw [View.write_of_not_mem _ _ _ (fun hc => ?_)]
    · exact hf j hj h
    · obtain ⟨y, -, rfl⟩ := Finset.mem_map.mp hc
      have e : ((outRows ![13312 * w.val + 128 * g.val, 0] inb).view.emb y 0).val = 13312 * w.val + 128 * g.val + 1 * (y 0).val := rfl
      omega
  · let i : Fin 128 := ⟨(j 0).val - (13312 * w.val + 128 * g.val), by omega⟩
    have he : (outRows ![13312 * w.val + 128 * g.val, 0] inb).view.emb (ix2 i (j 1)) = j :=
      Shape.idx_ext₂ (n := S425984x16.size)
        (by show 13312 * w.val + 128 * g.val + 1 * ((j 0).val - (13312 * w.val + 128 * g.val)) = (j 0).val; omega)
        (by show 0 + 1 * (j 1).val = (j 1).val; omega)
    have hw := View.write_emb_of_mem (v := (outRows ![13312 * w.val + 128 * g.val, 0] inb).view) (Val := Elt F) f (rowsOf X T w g)
      (Finset.mem_univ (ix2 i (j 1)))
    refine (congrArg ((outRows ![13312 * w.val + 128 * g.val, 0] inb).view.write (Elt F) f (rowsOf X T w g) Finset.univ) he.symm).trans (hw.trans ?_)
    show gathered X T (ix2 (rowAt w g i) (j 1)) = gathered X T j
    refine congrArg (gathered X T) (Shape.idx_ext₂ (n := S425984x16.size) ?_ rfl)
    show 13312 * w.val + 128 * g.val + ((j 0).val - (13312 * w.val + 128 * g.val)) = (j 0).val
    omega

/-- Once all 104 groups are written, the worker's output rows hold the answer. -/
theorem written_all {α : Type} {X : S3328x128.Idx → BitVec 32} {T : S2600000x16.Idx → α} {w : Fin 32} {f : S425984x16.Idx → α}
    (hf : Written X T w 104 f) : ∀ j ∈ outSet w, f j = gathered X T j :=
  fun j hj => hf j hj (by have := (mem_outSet.mp hj).2; omega)

/-! ## The fetch of the list -/

theorem idxRows_emb (w : Fin 32) {off : Fin 2 → ℕ} {inb} (hoff : off = ![104 * w.val, 0]) (x : S104x128.Idx) :
    (idxRows off inb).view.emb x = ix2 ⟨104 * w.val + (x 0).val, by have := idx2_lt0 (n0 := 104) (n1 := 128) x; omega⟩ (x 1) := by
  subst hoff
  exact Shape.idx_ext₂ (n := S3328x128.size) (show 104 * w.val + 1 * (x 0).val = 104 * w.val + (x 0).val by omega)
    (show 0 + 1 * (x 1).val = (x 1).val by omega)

theorem idxRows_set (w : Fin 32) {off : Fin 2 → ℕ} {inb} (hoff : off = ![104 * w.val, 0]) : (idxRows off inb).view.set = idxSet w := by
  ext j
  refine (Iff.trans ?_ mem_idxSet.symm)
  constructor
  · intro h
    obtain ⟨y, -, rfl⟩ := Finset.mem_map.mp h
    rw [idxRows_emb w hoff]
    have := idx2_lt0 (n0 := 104) (n1 := 128) y
    show 104 * w.val ≤ 104 * w.val + (y 0).val ∧ 104 * w.val + (y 0).val < _
    omega
  · intro ⟨h1, h2⟩
    refine Finset.mem_map.mpr ⟨ix2 ⟨(j 0).val - 104 * w.val, by omega⟩ (j 1), Finset.mem_univ _, ?_⟩
    rw [idxRows_emb w hoff]
    exact Shape.idx_ext₂ (n := S3328x128.size) (show 104 * w.val + ((j 0).val - 104 * w.val) = (j 0).val by omega) rfl

/-- The fetched list is the worker's rows of the index array, nothing moved yet. -/
theorem idxRows_read (X : S3328x128.Idx → BitVec 32) (w : Fin 32) {off : Fin 2 → ℕ} {inb} (hoff : off = ![104 * w.val, 0]) :
    (idxRows off inb).view.read (Elt F) X = listAt X w 0 := by
  funext x
  unfold listAt
  refine (congrArg X (idxRows_emb w hoff x)).trans ?_
  exact (if_neg (by omega)).symm

end Cert.Proof.Lookup
-- ==== Proof.Slots.lean ====
/-
  The two row buffers of the second loop. A buffer is free, has a gather in flight into it, or is loaded with the rows
  of one list row; the lemmas here are the three moves between those states — starting a gather, waiting for it, and
  copying the rows out — each stated once for either buffer.

  Each buffer is used with its own half of the worker's share of the table and its own half of the list, so a gather in
  flight for one never takes anything from the other.
-/
module

public import proofs.«01_k».proof.Proof.Rows

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "listV" => (Memref.whole Cert.KernelIdeal.cc0_scratch0 : Memref Cert.KernelIdeal.sig Kind.scVector Space.vmem Cert.KernelIdeal.S104x128 EltTy.i32)
local notation "outV" => (Memref.whole Cert.KernelIdeal.main_v2_scv : Memref Cert.KernelIdeal.sig Kind.scVector Space.hbm Cert.KernelIdeal.S425984x16 EltTy.f32)

/-- One row buffer with the semaphore its gathers signal, and the shares of the table and the list they read at. -/
structure Slot where
  buf : Memref sig .scVector .vmem S128x16 .f32
  sem : DmaSem sig
  tabQ : PosShare TreeShare
  listQ : PosShare TreeShare

section Tile

variable [FloatOps F] (d : Dev nD) (L : grid0.Coords) (G : Given F)

/-- The thread of this vector subcore. -/
abbrev me : Thread nD τ := V d (cV L) (jV L)

/-- A share of the table, all of it. -/
abbrev tabHeld (q : PosShare TreeShare) : sProp 𝕄 := (tabAll).view.loc (me d L) ↦[(tabAll).view.set]{q} G.tab
/-- A share of some elements of the finished list. -/
abbrev listHeld (q : PosShare TreeShare) (I : Finset S104x128.Idx) : sProp 𝕄 :=
  (listV).view.loc (me d L) ↦[I]{q} listDone G.idx (wV L)
/-- The buffer, holding the rows of list row `g`. -/
abbrev bufAt (s : Slot) (g : Fin 104) : sProp 𝕄 :=
  iprop(∃ f : Buf (Elt F) (s.buf.view.loc (me d L)), ⌜s.buf.view.read (Elt F) f = rowsOf G.idx G.tab (wV L) g⌝
    ∗ s.buf.view.loc (me d L) ↦[s.buf.view.set]{fullShare} f)

/-- Nothing is in flight into the buffer. -/
def Free (s : Slot) : sProp 𝕄 :=
  iprop((∃ f, s.buf.view.loc (me d L) ↦[s.buf.view.set]{fullShare} f) ∗ semVal (me d L, .dma s.sem) 0
    ∗ tabHeld d L G s.tabQ ∗ listHeld d L G s.listQ Finset.univ)

/-- The buffer holds the rows of list row `g`, and nothing is in flight into it. -/
def Loaded (s : Slot) (g : Fin 104) : sProp 𝕄 :=
  iprop(bufAt d L G s g ∗ semVal (me d L, .dma s.sem) 0 ∗ tabHeld d L G s.tabQ ∗ listHeld d L G s.listQ Finset.univ)

/-- The gather of list row `g` is in flight into the buffer: its wait gives the buffer loaded and the shares back. -/
def Flying (s : Slot) (g : Fin 104) : sProp 𝕄 :=
  iprop(∃ I : Finset S104x128.Idx,
    Transfers.Flight countersEmb (me d L) (.dma s.sem) (default : HIx 1) s.buf.view.dmaCredit
      iprop(bufAt d L G s g ∗ tabHeld d L G s.tabQ ∗ listHeld d L G s.listQ I)
    ∗ listHeld d L G s.listQ (Finset.univ \ I))

/-- A loaded buffer is free for the next gather. -/
theorem Loaded.free (s : Slot) (g : Fin 104) : Loaded d L G s g ⊢ Free d L G s := by
  unfold Loaded Free
  iintro ⟨⟨%f, -, Hb⟩, Hs, Ht, Hl⟩
  isplitl [Hb]; · iexists f; iexact Hb
  isplitl [Hs]; · iexact Hs
  isplitl [Ht] <;> iassumption

/-- What this subcore still owes, with nothing but its own waits recorded beyond `W`. -/
def Owing (O : CellTallies nD τ sig (HIx 1)) (W : Waits sig (HIx 1)) : sProp 𝕄 :=
  iprop(∃ W', ⌜∀ p ∈ W', p ∈ W ∨ p.2 = none⌝ ∗ owes (me d L) O W')

/-- A wait on a transfer semaphore of the subcore's own keeps `Owing`. -/
theorem Owing.waited {O : CellTallies nD τ sig (HIx 1)} {W W' : Waits sig (HIx 1)} (hW : ∀ p ∈ W', p ∈ W ∨ p.2 = none) (sm : SemLoc sig) :
    owes (me d L) O (Insert.insert (sm, (default : HIx 1)) W') ⊢ (Owing d L O W : sProp 𝕄) := by
  unfold Owing
  iintro H
  iexists (Insert.insert (sm, (default : HIx 1)) W')
  isplitr
  · ipureintro
    intro p hp
    rcases Finset.mem_insert.mp hp with hp | hp
    · exact .inr (hp ▸ rfl)
    · exact hW p hp
  · iexact H

/-- Starting the gather of list row `g` into a free buffer. -/
theorem wp_issue (hX : InTable G.idx) (s : Slot) (g : Fin 104) {off : Fin 2 → ℕ} {inb} (hoff : off = ![g.val, 0])
    (hN : ∑ j, (s.buf.slice (S128x16.rowRect gathers_S2600000x16_S128x16.axis' j) (S128x16.stride_rowRect gathers_S2600000x16_S128x16.axis' j)).view.dmaCredit
      = s.buf.view.dmaCredit)
    {hn : S128.numel = S128x16.size gathers_S2600000x16_S128x16.axis'} {hp : (me d L).2.kind = .scVector} {hsrc : (tabAll).view.WordExact}
    {he : EltTy.f32.bits = 32} {hsp : Space.hbm = .hbm ∨ Space.hbm = .shared} {hr : S2600000x16.StreamRows 0}
    {k : PUnit → Prog (TpuEff nD τ sig (Elt F) Λ₀ (me d L).2) Unit} {Q : Unit → sProp 𝕄} :
    Free d L G s ⊢ iprop((Flying d L G s g -∗ wp frame (wpE (defs₀ (F := F)) 𝒱₀ (me d L) none) Set.univ (k ⟨⟩) Q)
      -∗ wp frame (wpE (defs₀ (F := F)) 𝒱₀ (me d L) none) Set.univ
          (SparseCore.enqueueIndirectGather hp tabAll s.buf gathers_S2600000x16_S128x16 (listRow off inb) hn s.sem hsrc he hsp hr >>= k) Q) := by
  unfold Free Flying
  iintro ⟨⟨%fb, Hb⟩, Hs, Ht, Hl⟩ Hk
  ihave Hl' := (pointsTo_split_subset (q := s.listQ) (f := listDone G.idx (wV L)) (S := Finset.univ)
    (Finset.subset_univ (listRow off inb).view.set)).1 $$ Hl
  icases Hl' with ⟨Hrow, Hrest⟩
  iapply (SparseCore.wp_indirectGatherLocal countersEmb 𝒱₀ (me d L) none (src := tabAll) (dst := s.buf) (hg := gathers_S2600000x16_S128x16)
      (offs := listRow off inb) (default : HIx 1) s.buf.view.dmaCredit hN (by decide) (listRow_lt hX (wV L) g hoff)) $$ [Hb Hs Ht Hrow]
  · isplitl [Ht]; · iexact Ht
    isplitl [Hb]; · iexact Hb
    isplitl [Hrow]; · iexact Hrow
    iexact Hs
  iintro Hfl
  iapply Hk
  iexists (listRow off inb).view.set
  isplitl [Hfl]
  · iapply (Transfers.Flight_mono countersEmb (me d L) ?_) $$ Hfl
    iintro ⟨Hb, Ht, Hl⟩
    isplitl [Hb]
    · iexists _
      isplitr
      swap
      · iexact Hb
      ipureintro
      rw [View.read_write_univ]
      exact gather_rowsOf hX G.tab (wV L) g hoff hn _
    isplitl [Ht] <;> iassumption
  · iexact Hrest

/-- Waiting for the gather in flight into a buffer. -/
theorem wp_land (s : Slot) (g : Fin 104) {O : CellTallies nD τ sig (HIx 1)} {W : Waits sig (HIx 1)}
    {srcw : Memref sig (me d L).2.kind .hbm S2600000x16 .f32} {hsrc : srcw.view.WordExact} {hdst : s.buf.view.WordExact}
    {k : PUnit → Prog (TpuEff nD τ sig (Elt F) Λ₀ (me d L).2) Unit} {Q : Unit → sProp 𝕄} :
    iprop(Flying d L G s g ∗ Owing d L O W ∗ Transfers.MayWaits (me d L) (default : HIx 1) O)
      ⊢ iprop((iprop(Loaded d L G s g ∗ Owing d L O W) -∗ wp frame (wpE (defs₀ (F := F)) 𝒱₀ (me d L) none) Set.univ (k ⟨⟩) Q)
      -∗ wp frame (wpE (defs₀ (F := F)) 𝒱₀ (me d L) none) Set.univ (.op (.waitDma2 s.sem srcw s.buf hsrc hdst) k) Q) := by
  unfold Flying Loaded
  iintro ⟨⟨%I, Hfl, Hrest⟩, HO, #Hmw⟩ Hk
  unfold Owing
  icases HO with ⟨%W', %hW, HO⟩
  iapply (Transfers.wp_waitLocalO countersEmb 𝒱₀ (me d L) none (default : HIx 1) (rfl : s.buf.view.dmaCredit = _)) $$ [Hfl HO]
  · isplitl [Hfl]; · iexact Hfl
    isplitl [HO]; · iexact HO
    iapply (Transfers.MayWaits.elim (SemLoc.dma s.sem)) $$ Hmw
  iintro ⟨⟨Hb, Ht, Hl⟩, Hs, HO⟩
  iapply Hk
  isplitl [Hb Hs Ht Hl Hrest]
  · isplitl [Hb]; · iexact Hb
    isplitl [Hs]; · iexact Hs
    isplitl [Ht]; · iexact Ht
    iapply (pointsTo_split_subset (q := s.listQ) (f := listDone G.idx (wV L)) (S := Finset.univ) (Finset.subset_univ I)).2
    isplitl [Hl] <;> iassumption
  · iapply (show _ ⊢ iprop(∃ W', ⌜∀ p ∈ W', p ∈ W ∨ p.2 = none⌝ ∗ owes (me d L) O W') from Owing.waited d L hW (SemLoc.dma s.sem)) $$ HO

/-- The worker's output rows with the first `n` groups written. -/
def OutAt (n : ℕ) : sProp 𝕄 :=
  iprop(∃ f : Buf (Elt F) ((outV).view.loc (me d L)), ⌜Written G.idx G.tab (wV L) n f⌝ ∗ (outV).view.loc (me d L) ↦[outSet (wV L)]{fullShare} f)

/-- Copying a loaded buffer out to the next group of output rows, and waiting for the copy. -/
theorem wp_copyOut (s : Slot) (g : Fin 104) {off : Fin 2 → ℕ} {inb} (hoff : off = ![13312 * (wV L).val + 128 * g.val, 0])
    {O : CellTallies nD τ sig (HIx 1)} {W : Waits sig (HIx 1)} (sm : DmaSem sig)
    {h1 : s.buf.view.WordExact} {h2 : (outRows off inb).view.WordExact} {h3 : DmaTarget.Typed (nD := nD) .vmem (.dma sm) (.here (p := (me d L).2) (outRows off inb))}
    {h4 : s.buf.view.WordExact} {h5 : (outRows off inb).view.WordExact}
    {k : PUnit → Prog (TpuEff nD τ sig (Elt F) Λ₀ (me d L).2) Unit} {Q : Unit → sProp 𝕄} :
    iprop(Loaded d L G s g ∗ OutAt d L G g.val ∗ semVal (me d L, .dma sm) 0 ∗ Owing d L O W ∗ Transfers.MayWaits (me d L) (default : HIx 1) O)
      ⊢ iprop((iprop(Free d L G s ∗ OutAt d L G (g.val + 1) ∗ semVal (me d L, .dma sm) 0 ∗ Owing d L O W)
          -∗ wp frame (wpE (defs₀ (F := F)) 𝒱₀ (me d L) none) Set.univ (k ⟨⟩) Q)
      -∗ wp frame (wpE (defs₀ (F := F)) 𝒱₀ (me d L) none) Set.univ
        (.op (.enqueueDma s.buf (.here (p := (me d L).2) (outRows off inb)) (.dma sm) h1 h2 h3) fun _ => .op (.waitDma2 sm s.buf (outRows off inb) h4 h5) k) Q) := by
  unfold Loaded Free OutAt
  iintro ⟨⟨⟨%fb, %hfb, Hb⟩, Hs, Ht, Hl⟩, ⟨%fo, %hfo, Ho⟩, Hsm, HO, #Hmw⟩ Hk
  unfold Owing
  icases HO with ⟨%W', %hW, HO⟩
  iapply (Transfers.wp_dmaLocal countersEmb 𝒱₀ (me d L) none (default : HIx 1) (outRows off inb).view.dmaCredit rfl
    (View.dmaCredit_pos _ (show 0 < S128x16.numel by decide)) (outRows_subset (wV L) g hoff)) $$ [Hb Ho Hsm]
  · isplitl [Hb]; · iexact Hb
    isplitl [Ho]; · iexact Ho
    iexact Hsm
  iintro Hfl
  iapply (Transfers.wp_waitLocalO countersEmb 𝒱₀ (me d L) none (default : HIx 1) (rfl : (outRows off inb).view.dmaCredit = _)) $$ [Hfl HO]
  · isplitl [Hfl]; · iexact Hfl
    isplitl [HO]; · iexact HO
    iapply (Transfers.MayWaits.elim (SemLoc.dma sm)) $$ Hmw
  iintro ⟨⟨Ho, Hb⟩, Hsm, HO⟩
  iapply Hk
  isplitl [Hb Hs Ht Hl]
  · isplitl [Hb]; · iexists fb; iexact Hb
    isplitl [Hs]; · iexact Hs
    isplitl [Ht] <;> iassumption
  isplitl [Ho]
  · iexists _
    isplitr
    swap
    · iexact Ho
    ipureintro
    have h := written_succ (wV L) (inb := inb) g hoff hfo
    rw [← hfb] at h
    exact h
  isplitl [Hsm]; · iexact Hsm
  iapply (show _ ⊢ iprop(∃ W', ⌜∀ p ∈ W', p ∈ W ∨ p.2 = none⌝ ∗ owes (me d L) O W') from Owing.waited d L hW (SemLoc.dma sm)) $$ HO

end Tile

end Cert.Proof.Lookup
-- ==== Proof.Stream.lean ====
/-
  The kernel's second loop on one vector subcore. At trip `g` the gather of list row `g` is in flight into one of the
  two row buffers — the first at even trips, the second at odd ones — and the other buffer is free; the trip starts the
  gather of row `g + 1` into the free buffer, if there is such a row, waits for its own, and copies the 128 rows out.
-/
module

public import proofs.«01_k».proof.Proof.Slots

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "listV" => (Memref.whole Cert.KernelIdeal.cc0_scratch0 : Memref Cert.KernelIdeal.sig Kind.scVector Space.vmem Cert.KernelIdeal.S104x128 EltTy.i32)
local notation "outV" => (Memref.whole Cert.KernelIdeal.main_v2_scv : Memref Cert.KernelIdeal.sig Kind.scVector Space.hbm Cert.KernelIdeal.S425984x16 EltTy.f32)

local notation "tabV" => (Memref.whole Cert.KernelIdeal.main_v1_scv : Memref Cert.KernelIdeal.sig Kind.scVector Space.hbm Cert.KernelIdeal.S2600000x16 EltTy.f32)
local notation "idxV" => (Memref.whole Cert.KernelIdeal.main_v0_scv : Memref Cert.KernelIdeal.sig Kind.scVector Space.hbm Cert.KernelIdeal.S3328x128 EltTy.i32)
local notation "bufA" => (Memref.whole Cert.KernelIdeal.cc0_scratch1 : Memref Cert.KernelIdeal.sig Kind.scVector Space.vmem Cert.KernelIdeal.S128x16 EltTy.f32)
local notation "bufB" => (Memref.whole Cert.KernelIdeal.cc0_scratch2 : Memref Cert.KernelIdeal.sig Kind.scVector Space.vmem Cert.KernelIdeal.S128x16 EltTy.f32)

/-- A trip's conditions in numbers: which buffer's turn it is, and whether a list row is left to start. -/
theorem trip2_conds (t : Fin k0_t2_loop.trips) :
    (k0_cond1 t = 1#1 ↔ t.val % 2 = 0) ∧ (k0_cond3 t = 1#1 ↔ t.val % 2 = 1)
      ∧ (k0_cond2 t = 1#1 ↔ t.val + 1 < 104) ∧ (k0_cond4 t = 1#1 ↔ t.val + 1 < 104) := by
  revert t
  decide +kernel

/-- The second loop has 104 trips. -/
theorem trips2_eq : k0_t2_loop.trips = 104 := by decide +kernel

/-- The copy of trip `t` goes to the worker's output rows of group `t`. -/
theorem out_off (L : grid0.Coords) (t : ℕ) :
    (![26624 * (L 1).val + 13312 * (L 0).val + 128 * t, 0] : Fin 2 → ℕ) = ![13312 * (wV L).val + 128 * t, 0] := by
  have h : (wV L).val = 2 * (L 1).val + (L 0).val := rfl
  rw [h, show 26624 * (L 1).val + 13312 * (L 0).val = 13312 * (2 * (L 1).val + (L 0).val) by omega]

section Tile

variable [FloatOps F] (d : Dev nD) (L : grid0.Coords) (G : Given F)

/-- The buffer whose turn it is at trip `n`: the gather of list row `n` is in flight into it, if there is such a row. -/
def Turn (s : Slot) (n : ℕ) : sProp 𝕄 := if h : n < 104 then Flying d L G s ⟨n, h⟩ else Free d L G s

/-- One trip, for the buffer `s` whose turn it is and the other buffer `s'`: starting the next gather if there is one
    (`c` is the kernel's condition for that), waiting for this one, copying the rows out and waiting for the copy. -/
theorem wp_turn (hX : InTable G.idx) (s s' : Slot) (g : Fin 104) (c : BitVec 1) (hc : c = 1#1 ↔ g.val + 1 < 104)
    {off : Fin 2 → ℕ} {inb : c = 1#1 → _} (hoff : off = ![g.val + 1, 0])
    (hN : ∑ j, (s'.buf.slice (S128x16.rowRect gathers_S2600000x16_S128x16.axis' j) (S128x16.stride_rowRect gathers_S2600000x16_S128x16.axis' j)).view.dmaCredit
      = s'.buf.view.dmaCredit)
    {hn : S128.numel = S128x16.size gathers_S2600000x16_S128x16.axis'} {hp : (me d L).2.kind = .scVector} {hsrc : (tabAll).view.WordExact}
    {he : EltTy.f32.bits = 32} {hsp : Space.hbm = .hbm ∨ Space.hbm = .shared} {hr : S2600000x16.StreamRows 0}
    {offo : Fin 2 → ℕ} {inbo} (hoffo : offo = ![13312 * (wV L).val + 128 * g.val, 0])
    {O : CellTallies nD τ sig (HIx 1)} {W : Waits sig (HIx 1)} (sm : DmaSem sig)
    {hw1 : (tabAll).view.WordExact} {hw2 : s.buf.view.WordExact}
    {h1 : s.buf.view.WordExact} {h2 : (outRows offo inbo).view.WordExact} {h3 : DmaTarget.Typed (nD := nD) .vmem (.dma sm) (.here (p := (me d L).2) (outRows offo inbo))}
    {h4 : s.buf.view.WordExact} {h5 : (outRows offo inbo).view.WordExact}
    {k : PUnit → Prog (TpuEff nD τ sig (Elt F) Λ₀ (me d L).2) Unit} {Q : Unit → sProp 𝕄} :
    iprop((Turn d L G s g.val ∗ Free d L G s') ∗ OutAt d L G g.val ∗ semVal (me d L, .dma sm) 0 ∗ Owing d L O W
        ∗ Transfers.MayWaits (me d L) (default : HIx 1) O)
      ⊢ iprop((iprop((Turn d L G s' (g.val + 1) ∗ Free d L G s) ∗ OutAt d L G (g.val + 1) ∗ semVal (me d L, .dma sm) 0 ∗ Owing d L O W)
          -∗ wp frame (wpE (defs₀ (F := F)) 𝒱₀ (me d L) none) Set.univ (k ⟨⟩) Q)
      -∗ wp frame (wpE (defs₀ (F := F)) 𝒱₀ (me d L) none) Set.univ
        (if h : c = 1#1 then
          SparseCore.enqueueIndirectGather hp tabAll s'.buf gathers_S2600000x16_S128x16 (listRow off (inb h)) hn s'.sem hsrc he hsp hr >>= fun _ =>
            .op (.waitDma2 s.sem tabAll s.buf hw1 hw2) fun _ =>
              .op (.enqueueDma s.buf (.here (p := (me d L).2) (outRows offo inbo)) (.dma sm) h1 h2 h3) fun _ => .op (.waitDma2 sm s.buf (outRows offo inbo) h4 h5) k
        else
          .op (.waitDma2 s.sem tabAll s.buf hw1 hw2) fun _ =>
            .op (.enqueueDma s.buf (.here (p := (me d L).2) (outRows offo inbo)) (.dma sm) h1 h2 h3) fun _ => .op (.waitDma2 sm s.buf (outRows offo inbo) h4 h5) k) Q) := by
  have tail : iprop(Flying d L G s g ∗ Turn d L G s' (g.val + 1) ∗ OutAt d L G g.val ∗ semVal (me d L, .dma sm) 0 ∗ Owing d L O W
        ∗ Transfers.MayWaits (me d L) (default : HIx 1) O)
      ⊢ iprop((iprop((Turn d L G s' (g.val + 1) ∗ Free d L G s) ∗ OutAt d L G (g.val + 1) ∗ semVal (me d L, .dma sm) 0 ∗ Owing d L O W)
          -∗ wp frame (wpE (defs₀ (F := F)) 𝒱₀ (me d L) none) Set.univ (k ⟨⟩) Q)
      -∗ wp frame (wpE (defs₀ (F := F)) 𝒱₀ (me d L) none) Set.univ
        (.op (.waitDma2 s.sem tabAll s.buf hw1 hw2) fun _ =>
          .op (.enqueueDma s.buf (.here (p := (me d L).2) (outRows offo inbo)) (.dma sm) h1 h2 h3) fun _ => .op (.waitDma2 sm s.buf (outRows offo inbo) h4 h5) k) Q) := by
    iintro ⟨Hf, Hn, Ho, Hsm, HO, #Hmw⟩ Hk
    iapply (wp_land d L G s g) $$ [Hf HO]
    · isplitl [Hf]; · iexact Hf
      isplitl [HO]; · iexact HO
      iexact Hmw
    iintro ⟨Hb, HO⟩
    iapply (wp_copyOut d L G s g hoffo sm) $$ [Hb Ho Hsm HO]
    · isplitl [Hb]; · iexact Hb
      isplitl [Ho]; · iexact Ho
      isplitl [Hsm]; · iexact Hsm
      isplitl [HO]; · iexact HO
      iexact Hmw
    iintro ⟨Hb, Ho, Hsm, HO⟩
    iapply Hk
    isplitl [Hn Hb]; · isplitl [Hn] <;> iassumption
    isplitl [Ho]; · iexact Ho
    isplitl [Hsm] <;> iassumption
  have hT : Turn d L G s g.val = Flying d L G s g := dif_pos g.isLt
  rw [hT]
  iintro ⟨⟨Hf, Hn⟩, Ho, Hsm, HO, #Hmw⟩ Hk
  by_cases h : g.val + 1 < 104
  · have hT' : Turn d L G s' (g.val + 1) = Flying d L G s' ⟨g.val + 1, h⟩ := dif_pos h
    rw [dif_pos (hc.mpr h)]
    iapply (wp_issue d L G hX s' ⟨g.val + 1, h⟩ hoff hN) $$ Hn
    iintro Hn
    ihave Hn := (Entails.of_eq hT'.symm) $$ Hn
    iapply tail $$ [Hf Hn Ho Hsm HO]
    · isplitl [Hf]; · iexact Hf
      isplitl [Hn]; · iexact Hn
      isplitl [Ho]; · iexact Ho
      isplitl [Hsm]; · iexact Hsm
      isplitl [HO]; · iexact HO
      iexact Hmw
    iexact Hk
  · have hT' : Turn d L G s' (g.val + 1) = Free d L G s' := dif_neg h
    rw [dif_neg fun e => h (hc.mp e)]
    ihave Hn := (Entails.of_eq hT'.symm) $$ Hn
    iapply tail $$ [Hf Hn Ho Hsm HO]
    · isplitl [Hf]; · iexact Hf
      isplitl [Hn]; · iexact Hn
      isplitl [Ho]; · iexact Ho
      isplitl [Hsm]; · iexact Hsm
      isplitl [HO]; · iexact HO
      iexact Hmw
    iexact Hk

/-- The first row buffer, with the left halves of the subcore's table share and of its list. -/
abbrev slotA : Slot := ⟨bufA, cc0_scratch3.sem, (tabShare (wV L)).left, fullShare.left⟩
/-- The second row buffer, with the right halves. -/
abbrev slotB : Slot := ⟨bufB, cc0_scratch4.sem, (tabShare (wV L)).right, fullShare.right⟩

/-- What holds before trip `n` of the second loop. -/
def Between (O : CellTallies nD τ sig (HIx 1)) (W : Waits sig (HIx 1)) (n : ℕ) : sProp 𝕄 :=
  iprop((if n % 2 = 0 then iprop(Turn d L G (slotA L) n ∗ Free d L G (slotB L)) else iprop(Turn d L G (slotB L) n ∗ Free d L G (slotA L)))
    ∗ OutAt d L G n ∗ semVal (me d L, .dma cc0_scoped1.sem) 0 ∗ semVal (me d L, .dma cc0_scoped2.sem) 0 ∗ Owing d L O W
    ∗ Transfers.MayWaits (me d L) (default : HIx 1) O)

/-- The second loop's body at this subcore. -/
abbrev trip2 : Fin k0_t2_loop.trips → Unit → Prog (TpuEff nD τ sig (Elt F) Λ₀ (.scVector (cV L) (jV L))) Unit :=
  k0_t2_body L tabV (Memref.isWhole_whole _) idxV (Memref.isWhole_whole _) outV (Memref.isWhole_whole _)
    listV (Memref.isWhole_whole _) bufA (Memref.isWhole_whole _) bufB (Memref.isWhole_whole _)
    cc0_scratch3 cc0_scratch4 cc0_scoped0 cc0_scoped1 cc0_scoped2

/-- Trip `t` copies out the rows of list row `t` and hands the turn to the other buffer. -/
theorem wp_trip2 (hX : InTable G.idx) (O : CellTallies nD τ sig (HIx 1)) (W : Waits sig (HIx 1)) (t : Fin k0_t2_loop.trips) :
    Between d L G O W t.val ⊢ wp frame (wpE (defs₀ (F := F)) 𝒱₀ (V d (cV L) (jV L)) none) Set.univ
      (trip2 (F := F) L t ()) fun _ => Between d L G O W (t.val + 1) := by
  obtain ⟨c1, c3, c2, c4⟩ := trip2_conds t
  have ht : t.val < 104 := lt_of_lt_of_eq t.isLt trips2_eq
  have hN : ∀ h : S2600000x16.Gathers 0 S128x16, ∑ j, ((bufA).slice (S128x16.rowRect h.axis' j) (S128x16.stride_rowRect h.axis' j)).view.dmaCredit
      = (bufA).view.dmaCredit := by decide
  have hN' : ∀ h : S2600000x16.Gathers 0 S128x16, ∑ j, ((bufB).slice (S128x16.rowRect h.axis' j) (S128x16.stride_rowRect h.axis' j)).view.dmaCredit
      = (bufB).view.dmaCredit := by decide
  unfold trip2 k0_t2_body Between
  iintro ⟨Ht, Ho, Hs1, Hs2, HO, #Hmw⟩
  by_cases hp : t.val % 2 = 0
  · have h1 := c1.mpr hp
    have h3 : ¬ k0_cond3 t = 1#1 := fun e => by have := c3.mp e; omega
    have hp' : ¬ (t.val + 1) % 2 = 0 := by omega
    simp only [dif_pos h1, dif_neg h3, if_pos hp, if_neg hp', Prog.lift, Prog.bind_op, Prog.bind_ret, Prog.pure_eq_ret, Prog.bind_assoc, SparseCore.waitIndirectGather]
    iapply (wp_turn d L G hX (slotA L) (slotB L) ⟨t.val, ht⟩ (k0_cond2 t) c2 (k0_off10_eq t) (hN' _)
      ((k0_off12_eq L t).trans (out_off L t.val)) cc0_scoped1.sem) $$ [Ht Ho Hs1 HO]
    · isplitl [Ht]; · iexact Ht
      isplitl [Ho]; · iexact Ho
      isplitl [Hs1]; · iexact Hs1
      isplitl [HO]; · iexact HO
      iexact Hmw
    iintro ⟨Ht, Ho, Hs1, HO⟩
    sl_step
    isplitl [Ht]; · iexact Ht
    isplitl [Ho]; · iexact Ho
    isplitl [Hs1]; · iexact Hs1
    isplitl [Hs2]; · iexact Hs2
    isplitl [HO]; · iexact HO
    iexact Hmw
  · have h1 : ¬ k0_cond1 t = 1#1 := fun e => hp (c1.mp e)
    have h3 := c3.mpr (by omega)
    have hp' : (t.val + 1) % 2 = 0 := by omega
    simp only [dif_neg h1, dif_pos h3, if_neg hp, if_pos hp', Prog.lift, Prog.bind_op, Prog.bind_ret, Prog.pure_eq_ret, Prog.bind_assoc, SparseCore.waitIndirectGather]
    iapply (wp_turn d L G hX (slotB L) (slotA L) ⟨t.val, ht⟩ (k0_cond4 t) c4 (k0_off13_eq t) (hN _)
      ((k0_off15_eq L t).trans (out_off L t.val)) cc0_scoped2.sem) $$ [Ht Ho Hs2 HO]
    · isplitl [Ht]; · iexact Ht
      isplitl [Ho]; · iexact Ho
      isplitl [Hs2]; · iexact Hs2
      isplitl [HO]; · iexact HO
      iexact Hmw
    iintro ⟨Ht, Ho, Hs2, HO⟩
    sl_step
    isplitl [Ht]; · iexact Ht
    isplitl [Ho]; · iexact Ho
    isplitl [Hs1]; · iexact Hs1
    isplitl [Hs2]; · iexact Hs2
    isplitl [HO]; · iexact HO
    iexact Hmw

end Tile

end Cert.Proof.Lookup
-- ==== Proof.Own.lean ====
/-
  What a vector subcore owns, taken apart: the kernel's five transfer semaphores and its three scratch buffers, and the
  rest of the subcore's semaphores and buffers, which the kernel leaves alone.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The semaphores the kernel's transfers signal. -/
def sems : Finset (SemLoc sig) :=
  {.dma cc0_scratch3.sem, .dma cc0_scratch4.sem, .dma cc0_scoped0.sem, .dma cc0_scoped1.sem, .dma cc0_scoped2.sem}
/-- The kernel's scratch buffers. -/
def bufs : Finset (Ref sig .scVector) := {cc0_scratch0, cc0_scratch1, cc0_scratch2}

theorem bufs_split (Φ : Ref sig .scVector → sProp 𝕄) : bigSep bufs Φ = iprop(Φ cc0_scratch0 ∗ Φ cc0_scratch1 ∗ Φ cc0_scratch2) := by
  unfold bufs
  rw [SparseCore.bigSep_insert' (by decide), SparseCore.bigSep_insert' (by decide), bigSep_singleton]

variable (d : Dev nD) (c : Fin τ.nSC) (i : Fin τ.nSub)

/-- The kernel's semaphores on one subcore, as cells of the machine. -/
def cells : Finset (GSem nD τ sig) := sems.map ⟨Prod.mk (V d c i), fun _ _ h => (Prod.mk.inj h).2⟩
/-- The kernel's scratch buffers on one subcore, as buffers of the device. -/
def refs : Finset (DevRef τ sig) := bufs.map ⟨(Proc.scVector c i).devRef, Proc.devRef_injective _⟩

theorem cells_subset : cells d c i ⊆ ownCells (V d c i) := by
  intro g hg
  obtain ⟨s, hs, rfl⟩ := Finset.mem_map.mp hg
  have hsc : ∀ s ∈ sems, s.isScoped .scVector = true := by decide
  exact mem_ownCells.mpr ⟨rfl, hsc s hs⟩

theorem refs_subset : refs c i ⊆ ownRefs (τ := τ) (.scVector c i) := by
  intro b hb
  obtain ⟨r, hr, rfl⟩ := Finset.mem_map.mp hb
  have hr' : r = cc0_scratch0 ∨ r = cc0_scratch1 ∨ r = cc0_scratch2 := by simpa [bufs] using hr
  refine SparseCore.Cfg.mem_ownRefs_of_owner (p := Proc.scVector c i) ?_
  rcases hr' with rfl | rfl | rfl <;> rfl

/-- A subcore's semaphores at zero are the kernel's five and the rest. -/
theorem ownSems0_eq :
    (ownSems0 (V d c i) : sProp 𝕄)
      = iprop((semVal (V d c i, .dma cc0_scratch3.sem) 0 ∗ semVal (V d c i, .dma cc0_scratch4.sem) 0 ∗ semVal (V d c i, .dma cc0_scoped0.sem) 0
          ∗ semVal (V d c i, .dma cc0_scoped1.sem) 0 ∗ semVal (V d c i, .dma cc0_scoped2.sem) 0)
        ∗ bigSep (ownCells (V d c i) \ cells d c i) fun g => semVal g 0) := by
  unfold ownSems0
  rw [SparseCore.bigSep_sdiff_split' (cells_subset d c i)]
  congr 1
  refine (bigSep_map _).trans ?_
  unfold sems
  rw [SparseCore.bigSep_insert' (by decide), SparseCore.bigSep_insert' (by decide), SparseCore.bigSep_insert' (by decide), SparseCore.bigSep_insert' (by decide), bigSep_singleton]
  rfl

/-- A subcore's buffers are the kernel's three and the rest. -/
theorem ownBufs_eq :
    (ownBufs (V d c i) : sProp 𝕄)
      = iprop(((∃ f, (V d c i).loc cc0_scratch0 ↦{fullShare} f) ∗ (∃ f, (V d c i).loc cc0_scratch1 ↦{fullShare} f)
          ∗ ∃ f, (V d c i).loc cc0_scratch2 ↦{fullShare} f)
        ∗ bigSep (ownRefs (τ := τ) (.scVector c i) \ refs c i) fun b => iprop(∃ f, ((d, b) : Loc nD τ sig) ↦{fullShare} f)) := by
  unfold ownBufs
  refine (SparseCore.bigSep_sdiff_split' (refs_subset c i)).trans ?_
  congr 1
  exact (bigSep_map _).trans (bufs_split _)

end Cert.Proof.Lookup
-- ==== Proof.Tile.lean ====
/-
  The kernel on one vector subcore, whole: it fetches its list of row numbers, moves them, starts the gather of the first
  list row and streams the 104 list rows out through its two buffers.
-/
module

public import proofs.«01_k».proof.Proof.Adjust
public import proofs.«01_k».proof.Proof.Stream
public import proofs.«01_k».proof.Proof.Own

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "listV" => (Memref.whole Cert.KernelIdeal.cc0_scratch0 : Memref Cert.KernelIdeal.sig Kind.scVector Space.vmem Cert.KernelIdeal.S104x128 EltTy.i32)
local notation "outV" => (Memref.whole Cert.KernelIdeal.main_v2_scv : Memref Cert.KernelIdeal.sig Kind.scVector Space.hbm Cert.KernelIdeal.S425984x16 EltTy.f32)

local notation "tabV" => (Memref.whole Cert.KernelIdeal.main_v1_scv : Memref Cert.KernelIdeal.sig Kind.scVector Space.hbm Cert.KernelIdeal.S2600000x16 EltTy.f32)
local notation "idxV" => (Memref.whole Cert.KernelIdeal.main_v0_scv : Memref Cert.KernelIdeal.sig Kind.scVector Space.hbm Cert.KernelIdeal.S3328x128 EltTy.i32)
local notation "bufA" => (Memref.whole Cert.KernelIdeal.cc0_scratch1 : Memref Cert.KernelIdeal.sig Kind.scVector Space.vmem Cert.KernelIdeal.S128x16 EltTy.f32)
local notation "bufB" => (Memref.whole Cert.KernelIdeal.cc0_scratch2 : Memref Cert.KernelIdeal.sig Kind.scVector Space.vmem Cert.KernelIdeal.S128x16 EltTy.f32)

/-- The kernel's word for the first position of the subcore's list. -/
theorem base_pos (L : grid0.Coords) :
    Scalar.muli (Scalar.addi (Scalar.muli (BitVec.ofNat 32 (L 1).val) 2#32) (BitVec.ofNat 32 (L 0).val)) 13312#32
      = BitVec.ofNat 32 (13312 * (wV L).val) := by
  have h : (wV L).val = 2 * (L 1).val + (L 0).val := rfl
  show (BitVec.ofNat 32 (L 1).val * 2#32 + BitVec.ofNat 32 (L 0).val) * 13312#32 = _
  rw [show (2#32 : BitVec 32) = BitVec.ofNat 32 2 from rfl, show (13312#32 : BitVec 32) = BitVec.ofNat 32 13312 from rfl,
    ← BitVec.ofNat_mul, ← BitVec.ofNat_add, ← BitVec.ofNat_mul, h]
  congr 1
  omega

/-- The fetch reads the worker's own index rows. -/
theorem idx_off (L : grid0.Coords) : k0_off1 L = ![104 * (wV L).val, 0] := by
  have h : (wV L).val = 2 * (L 1).val + (L 0).val := rfl
  rw [k0_off1_eq, h, show 208 * (L 1).val + 104 * (L 0).val = 104 * (2 * (L 1).val + (L 0).val) by omega]

/-- The first loop has 104 trips. -/
theorem trips1_eq : k0_t1_loop.trips = 104 := by decide +kernel

section Tile

variable [FloatOps F] (d : Dev nD) (L : grid0.Coords)

/-- The fetch of the list and its wait: the list is the worker's index rows, none of them moved. -/
theorem wp_fetch (X : S3328x128.Idx → BitVec 32) {off : Fin 2 → ℕ} {inb} (hoff : off = ![104 * (wV L).val, 0])
    {O : CellTallies nD τ sig (HIx 1)} {W : Waits sig (HIx 1)} (sm : DmaSem sig)
    {h1 : (idxRows off inb).view.WordExact} {h2 : (listV).view.WordExact} {h3 : DmaTarget.Typed (nD := nD) .hbm (.dma sm) (.here (p := (me d L).2) listV)}
    {h4 : (idxRows off inb).view.WordExact} {h5 : (listV).view.WordExact}
    {k : PUnit → Prog (TpuEff nD τ sig (Elt F) Λ₀ (me d L).2) Unit} {Q : Unit → sProp 𝕄} :
    iprop((idxLoc d ↦[idxSet (wV L)]{fullShare} X) ∗ (∃ f, (V d (cV L) (jV L)).loc cc0_scratch0 ↦{fullShare} f) ∗ semVal (me d L, .dma sm) 0
        ∗ Owing d L O W ∗ Transfers.MayWaits (me d L) (default : HIx 1) O)
      ⊢ iprop((iprop((idxLoc d ↦[idxSet (wV L)]{fullShare} X) ∗ listPts d L X 0 ∗ semVal (me d L, .dma sm) 0 ∗ Owing d L O W)
          -∗ wp frame (wpE (defs₀ (F := F)) 𝒱₀ (me d L) none) Set.univ (k ⟨⟩) Q)
      -∗ wp frame (wpE (defs₀ (F := F)) 𝒱₀ (me d L) none) Set.univ
        (.op (.enqueueDma (idxRows off inb) (.here (p := (me d L).2) listV) (.dma sm) h1 h2 h3) fun _ => .op (.waitDma2 sm (idxRows off inb) listV h4 h5) k) Q) := by
  have hidx : (idxLoc d ↦[idxSet (wV L)]{fullShare} X : sProp 𝕄)
      = (idxRows off inb).view.loc (me d L) ↦[(idxRows off inb).view.set]{fullShare} X := by rw [idxRows_set (wV L) hoff]
  have hl : ∀ f : Buf (Elt F) ((V d (cV L) (jV L)).loc cc0_scratch0),
      (listV).view.write (Elt F) f ((idxRows off inb).view.read (Elt F) X) Finset.univ = listAt X (wV L) 0 := fun f =>
    (View.write_whole_univ _ _ _).trans (idxRows_read (F := F) X (wV L) hoff)
  iintro ⟨Hi, ⟨%f, Hl⟩, Hsm, HO, #Hmw⟩ Hk
  unfold Owing
  icases HO with ⟨%W', %hW, HO⟩
  ihave Hi := (Entails.of_eq hidx) $$ Hi
  iapply (Transfers.wp_dmaLocal countersEmb 𝒱₀ (me d L) none (default : HIx 1) (listV).view.dmaCredit rfl
    (View.dmaCredit_pos _ (show 0 < S104x128.numel by decide)) (Finset.subset_univ _)) $$ [Hi Hl Hsm]
  · isplitl [Hi]; · iexact Hi
    isplitl [Hl]; · iexact Hl
    iexact Hsm
  iintro Hfl
  iapply (Transfers.wp_waitLocalO countersEmb 𝒱₀ (me d L) none (default : HIx 1) (rfl : (listV).view.dmaCredit = _)) $$ [Hfl HO]
  · isplitl [Hfl]; · iexact Hfl
    isplitl [HO]; · iexact HO
    iapply (Transfers.MayWaits.elim (SemLoc.dma sm)) $$ Hmw
  iintro ⟨⟨Hl, Hi⟩, Hsm, HO⟩
  iapply Hk
  isplitl [Hi]; · iapply (Entails.of_eq hidx.symm) $$ Hi
  isplitl [Hl]
  · iapply (Entails.of_eq (congrArg (fun f : Buf (Elt F) ((V d (cV L) (jV L)).loc cc0_scratch0) =>
      ((V d (cV L) (jV L)).loc cc0_scratch0 ↦{fullShare} f : sProp 𝕄)) (hl f)))
    iexact Hl
  isplitl [Hsm]; · iexact Hsm
  iapply (show _ ⊢ iprop(∃ W', ⌜∀ p ∈ W', p ∈ W ∨ p.2 = none⌝ ∗ owes (me d L) O W') from Owing.waited d L hW (SemLoc.dma sm)) $$ HO

/-- At the first trip, the gather of the first list row is in flight. -/
theorem turn_zero (G : Given F) (s : Slot) : Turn d L G s 0 = Flying d L G s ⟨0, by decide⟩ := dif_pos (by decide)
/-- After the last trip, nothing is in flight. -/
theorem turn_last (G : Given F) (s : Slot) : Turn d L G s 104 = Free d L G s := dif_neg (by decide)

/-- A subcore that has waited for nothing yet owes what it started with. -/
theorem Owing.start {O : CellTallies nD τ sig (HIx 1)} {W : Waits sig (HIx 1)} : owes (me d L) O W ⊢ (Owing d L O W : sProp 𝕄) := by
  unfold Owing
  iintro H
  iexists W
  isplitr
  · ipureintro
    exact fun p hp => .inl hp
  · iexact H

set_option maxHeartbeats 1000000 in
/-- The kernel on one vector subcore: from its index rows, its share of the table and its output rows, it leaves the
    output rows holding the answer and everything else as it was. -/
theorem tile_body (A : Dev nD → Given F) (hX : InTable (A d).idx) (hF : (K (F := F)).Facts) (O : CellTallies nD τ sig (HIx 1)) (W : Waits sig (HIx 1))
    (hO : ∀ g, O g none = 0) :
    iprop(levAts (K (F := F)).L (K (F := F)).lev ∗ emp ∗ goPart A d (wV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L tabV (Memref.isWhole_whole _) idxV (Memref.isWhole_whole _) outV (Memref.isWhole_whole _)
            listV (Memref.isWhole_whole _) bufA (Memref.isWhole_whole _) bufB (Memref.isWhole_whole _)
            cc0_scratch3 cc0_scratch4 cc0_scoped0 cc0_scoped1 cc0_scoped2)
          fun _ => iprop(tdPart A d (wV L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hN : ∀ h : S2600000x16.Gathers 0 S128x16, ∑ j, ((bufA).slice (S128x16.rowRect h.axis' j) (S128x16.stride_rowRect h.axis' j)).view.dmaCredit
      = (bufA).view.dmaCredit := by decide
  simp only [cc0__sc_body_eq_skeleton]; unfold cc0__sc_body_skel
  rw [(K (F := F)).scopedBufs_V hF d (cV L) (jV L), SparseCore.Cfg.scopedSems0_V (Val := Elt F) d (cV L) (jV L), ownSems0_eq, ownBufs_eq]
  simp only [Prog.lift, Prog.bind_op, Prog.bind_ret, Prog.pure_eq_ret, Prog.bind_assoc]
  iintro ⟨#Hlv, -, ⟨Hi, Ht, %fo, Ho⟩, ⟨⟨Hl, ⟨%fa, Ha⟩, %fb, Hb⟩, Hbufs⟩, ⟨⟨HsA, HsB, Hs0, Hs1, Hs2⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave HO := (Owing.start d L) $$ HO
  iapply (wp_fetch d L (A d).idx (idx_off L) cc0_scoped0.sem) $$ [Hi Hl Hs0 HO]
  · isplitl [Hi]; · iexact Hi
    isplitl [Hl]; · iexact Hl
    isplitl [Hs0]; · iexact Hs0
    isplitl [HO]; · iexact HO
    iexact Hmw
  iintro ⟨Hi, Hl, Hs0, HO⟩
  sl_for (fun n _ => listPts d L (A d).idx (128 * n)) $$ [Hl]
  case region =>
    intro k _
    exact wp_trip1 d L (A d).idx k _ (base_pos L)
  · iexact Hl
  iintro %_ Hl
  sl_respell [tile_body.sl.prog.cont_1]
  ihave Hl := (Entails.of_eq (show listPts d L (A d).idx (128 * Scf.trips k0_t1_loop.lb k0_t1_loop.ub k0_t1_loop.st)
    = listHeld d L (A d) fullShare Finset.univ by
      rw [show Scf.trips k0_t1_loop.lb k0_t1_loop.ub k0_t1_loop.st = 104 from trips1_eq])) $$ Hl
  ihave Hl := (pointsTo_share (PosShare.mem_left_op_right fullShare)).1 $$ Hl
  icases Hl with ⟨HlA, HlB⟩
  have hall : (tabLoc d ↦{tabShare (wV L)} (A d).tab : sProp 𝕄) = tabHeld d L (A d) (tabShare (wV L)) := by
    unfold tabHeld
    rw [tabAll_set]
  ihave Ht := (Entails.of_eq hall) $$ Ht
  ihave Ht := (pointsTo_share (PosShare.mem_left_op_right (tabShare (wV L)))).1 $$ Ht
  icases Ht with ⟨HtA, HtB⟩
  have hbA : ∀ f, ((V d (cV L) (jV L)).loc cc0_scratch1 ↦{fullShare} f : sProp 𝕄) = (bufA).view.loc (me d L) ↦[(bufA).view.set]{fullShare} f :=
    fun f => by rw [show (bufA).view.set = Finset.univ from View.set_whole _]
  have hbB : ∀ f, ((V d (cV L) (jV L)).loc cc0_scratch2 ↦{fullShare} f : sProp 𝕄) = (bufB).view.loc (me d L) ↦[(bufB).view.set]{fullShare} f :=
    fun f => by rw [show (bufB).view.set = Finset.univ from View.set_whole _]
  ihave Ha := (Entails.of_eq (hbA fa)) $$ Ha
  ihave Hb := (Entails.of_eq (hbB fb)) $$ Hb
  iapply (wp_issue d L (A d) hX (slotA L) ⟨0, by decide⟩ rfl (hN _)) $$ [Ha HsA HtA HlA]
  · unfold Free
    isplitl [Ha]; · iexists fa; iexact Ha
    isplitl [HsA]; · iexact HsA
    isplitl [HtA] <;> iassumption
  iintro Hfl
  sl_for (fun n _ => Between d L (A d) O W n) $$ [Hfl Hb HsB HtB HlB Ho Hs1 Hs2 HO]
  case region =>
    intro k _
    exact wp_trip2 d L (A d) hX O W k
  · unfold Between
    simp only [Nat.zero_mod, ↓reduceIte]
    isplitl [Hfl Hb HsB HtB HlB]
    · isplitl [Hfl]
      · iapply (Entails.of_eq (turn_zero d L (A d) (slotA L)).symm) $$ Hfl
      unfold Free
      isplitl [Hb]; · iexists fb; iexact Hb
      isplitl [HsB]; · iexact HsB
      isplitl [HtB] <;> iassumption
    isplitl [Ho]
    · unfold OutAt
      iexists fo
      isplitr
      · ipureintro
        exact written_zero _ _ _ _
      · iexact Ho
    isplitl [Hs1]; · iexact Hs1
    isplitl [Hs2]; · iexact Hs2
    isplitl [HO]; · iexact HO
    iexact Hmw
  iintro %_ HI
  sl_respell [tile_body.sl.prog.cont_2]
  sl_step
  ihave HI := (Entails.of_eq (show Between d L (A d) O W (Scf.trips k0_t2_loop.lb k0_t2_loop.ub k0_t2_loop.st) = Between d L (A d) O W 104 by
    rw [show Scf.trips k0_t2_loop.lb k0_t2_loop.ub k0_t2_loop.st = 104 from trips2_eq])) $$ HI
  unfold Between
  rw [if_pos (by decide), turn_last]
  unfold Free OutAt Owing
  icases HI with ⟨⟨⟨⟨%fa', Ha⟩, HsA, HtA, HlA⟩, ⟨%fb', Hb⟩, HsB, HtB, HlB⟩, ⟨%fo', %hfo, Ho⟩, Hs1, Hs2, HO, -⟩
  isplitl [Hi HtA HtB Ho]
  · isplitl [Hi]; · iexact Hi
    isplitl [HtA HtB]
    · iapply (Entails.of_eq hall.symm)
      iapply (pointsTo_share (PosShare.mem_left_op_right (tabShare (wV L)))).2
      isplitl [HtA] <;> iassumption
    · iapply (Entails.of_eq (pointsTo_congr (written_all hfo)))
      iexact Ho
  isplitl [HlA HlB Ha Hb Hbufs]
  · isplitl [HlA HlB Ha Hb]
    · isplitl [HlA HlB]
      · iexists (listDone (A d).idx (wV L))
        iapply (pointsTo_share (PosShare.mem_left_op_right fullShare)).2
        isplitl [HlA] <;> iassumption
      isplitl [Ha]
      · iexists fa'
        iapply (Entails.of_eq (hbA fa').symm) $$ Ha
      · iexists fb'
        iapply (Entails.of_eq (hbB fb').symm) $$ Hb
    · iexact Hbufs
  isplitl [HsA HsB Hs0 Hs1 Hs2 Hsems]
  · isplitl [HsA HsB Hs0 Hs1 Hs2]
    · isplitl [HsA]; · iexact HsA
      isplitl [HsB]; · iexact HsB
      isplitl [Hs0]; · iexact Hs0
      isplitl [Hs1] <;> iassumption
    · iexact Hsems
  iexact HO

end Tile

end Cert.Proof.Lookup
-- ==== Proof.Launch.lean ====
/-
  The kernel's program, run: the two reshapes of the arguments, the call of the SparseCores' kernel, and the reshape of
  its output. Stated for any reading of the floats, since the kernel computes on none.
-/
module

public import proofs.«01_k».proof.Proof.Parts
public import proofs.«01_k».proof.Proof.Tile

@[expose] public section

noncomputable section

namespace Cert.Proof.Lookup

open Cert.KernelIdeal Cert.KernelIdeal.Gen
open Idealize.ShloMosaic Idealize.ShloMosaic.TcCoe Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The call's obligations -/

/-- The grid position of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

local notation "listV" => (Memref.whole Cert.KernelIdeal.cc0_scratch0 : Memref Cert.KernelIdeal.sig Kind.scVector Space.vmem Cert.KernelIdeal.S104x128 EltTy.i32)
local notation "outV" => (Memref.whole Cert.KernelIdeal.main_v2_scv : Memref Cert.KernelIdeal.sig Kind.scVector Space.hbm Cert.KernelIdeal.S425984x16 EltTy.f32)
local notation "tabV" => (Memref.whole Cert.KernelIdeal.main_v1_scv : Memref Cert.KernelIdeal.sig Kind.scVector Space.hbm Cert.KernelIdeal.S2600000x16 EltTy.f32)
local notation "idxV" => (Memref.whole Cert.KernelIdeal.main_v0_scv : Memref Cert.KernelIdeal.sig Kind.scVector Space.hbm Cert.KernelIdeal.S3328x128 EltTy.i32)
local notation "bufA" => (Memref.whole Cert.KernelIdeal.cc0_scratch1 : Memref Cert.KernelIdeal.sig Kind.scVector Space.vmem Cert.KernelIdeal.S128x16 EltTy.f32)
local notation "bufB" => (Memref.whole Cert.KernelIdeal.cc0_scratch2 : Memref Cert.KernelIdeal.sig Kind.scVector Space.vmem Cert.KernelIdeal.S128x16 EltTy.f32)

variable [FloatOps F]

theorem defs₀_vector (c : Fin τ.nSC) (s : Fin τ.nSub) :
    defs₀ (F := F) (.scVector c s) 0 ()
      = SparseCore.onTile hcore0 hsub0 (fun c s => cc0__sc_body (coordsV c s) tabV (Memref.isWhole_whole _) idxV (Memref.isWhole_whole _)
          outV (Memref.isWhole_whole _) listV (Memref.isWhole_whole _) bufA (Memref.isWhole_whole _) bufB (Memref.isWhole_whole _)
          cc0_scratch3 cc0_scratch4 cc0_scoped0 cc0_scoped1 cc0_scoped2) ⟨⟩ c s := rfl

/-- The waits a subcore records at its own level are among those the call allows. -/
theorem owes_weaken {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW, HO⟩
  isplitl [HX]; · iexact HX
  isplitl [HY]; · iexact HY
  isplitl [HZ]; · iexact HZ
  iexists W'
  isplitr
  · ipureintro
    intro p hp
    rcases hW p hp with h | h
    · exact .inl h
    · exact .inr (.inl h)
  · iexact HO

set_option maxRecDepth 16384 in
/-- Every subcore's run of the kernel, from its part to its part. -/
theorem tileObl (A : Dev nD → Given F) (hX : ∀ d, InTable (A d).idx) (hF : (K (F := F)).Facts) :
    (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) A (hX d) hF O W hO).trans (wp_mono frame _ _ fun _ => owes_weaken)

/-! ## The ghost state at the launch -/

def u₀ : UU := (initOf (K (F := F)).hsCells (K (F := F)).hsToks, 1)

theorem launch_ghost (A : Dev nD → Given F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  have nothing : (bigSep Finset.univ fun thr : Thread nD τ => bigSep Finset.univ fun q : Fin 1 => (P A).x q thr) = (iprop(emp) : sProp 𝕄) :=
    (bigSep_congr fun _ _ => bigSep_univ_of_subsingleton (0 : Fin 1)).trans (bigSep_emp_const _)
  have nothing' : (bigSep Finset.univ fun _ : Dev nD => iprop(emp)) = (iprop(emp) : sProp 𝕄) := bigSep_emp_const _
  rw [nothing, nothing']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's program -/

/-- A reshape of `x` into `y` on the TensorCore leaves `x` and puts its elements, at `y`'s shape, in `y`. -/
theorem wp_reshape (V₀ : Valuation τ sig (Elt F)) (d : Dev nD) (x y : Ref sig .tc) (hxy : (x : DevRef τ sig) ≠ (y : DevRef τ sig))
    (he : x.ty.elt = y.ty.elt) (hn : x.ty.shape.ShapeCasts y.ty.shape)
    (hx : x.space ≠ .host ∧ (x : DevRef τ sig).isScoped = false) (hy : y.space ≠ .host ∧ (y : DevRef τ sig).isScoped = false)
    (f : Buf (Elt F) ((SparseCore.T d).loc x)) (g : Buf (Elt F) ((SparseCore.T d).loc y)) {Q : PUnit → sProp 𝕄} :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f) ∗ ((SparseCore.T d).loc y ↦{fullShare} fun i => he ▸ shapeCast y.ty.shape f hn i)) -∗ Q ⟨⟩)
        -∗ wp frame (wpE ((K (F := F)).defs (D (F := F))) 𝒱 (SparseCore.T d) none) Set.univ
          (hlo rfl (StableHlo.reshape x y he hn hx hy) fun _ => .ret ⟨⟩) Q) := by
  have hpair : ∀ W : Valuation τ sig (Elt F), (held (SparseCore.T d) {(x : DevRef τ sig), (y : DevRef τ sig)} W : sProp 𝕄)
      = iprop(((SparseCore.T d).loc x ↦{fullShare} W x) ∗ (SparseCore.T d).loc y ↦{fullShare} W y) := fun W => by
    unfold held
    rw [SparseCore.bigSep_insert' (fun h => hxy (Finset.mem_singleton.mp h)), bigSep_singleton]
  let W : Valuation τ sig (Elt F) := Function.update (Function.update V₀ (x : DevRef τ sig) f) (y : DevRef τ sig) g
  have hWx : W x = f := (Function.update_of_ne hxy _ _).trans (Function.update_self _ _ _)
  have hWy : W y = g := Function.update_self _ _ _
  have hRx : (StableHlo.reshape x y he hn hx hy : HloOp τ sig (Elt F)).result W x = f :=
    ((StableHlo.reshape x y he hn hx hy : HloOp τ sig (Elt F)).result_of_not_mem W (fun h => hxy (Finset.mem_singleton.mp h))).trans hWx
  have hRy : (StableHlo.reshape x y he hn hx hy : HloOp τ sig (Elt F)).result W y = fun i => he ▸ shapeCast y.ty.shape f hn i :=
    (StableHlo.reshape_result x y he hn hx hy W).trans (by rw [hWx])
  iintro ⟨Hb, Hx, Hy⟩ Hk
  iapply (wp_hlo_within 𝒱 (SparseCore.T d) none Set.univ (op := StableHlo.reshape x y he hn hx hy) (S := {(x : DevRef τ sig), (y : DevRef τ sig)})
    (Finset.Subset.refl _) (V := W)) $$ [Hb Hx Hy]
  · isplitl [Hb]; · iexact Hb
    rw [hpair, hWx, hWy]
    isplitl [Hx] <;> iassumption
  rw [hpair, hRx, hRy, wp_ret]
  iintro ⟨Hb, Hx, Hy⟩
  imodintro
  iapply Hk
  isplitl [Hb]; · iexact Hb
  isplitl [Hx] <;> iassumption

variable (m : (ℓ : Loc nD τ sig) → Buf (Elt F) ℓ) (ρ : Dev nD → PrngReg)

/-- The call's index array and table are the program's arguments, reshaped. -/
def given (d : Dev nD) : Given F where
  idx := shapeCast S3328x128 (m (xLoc d)) shapeCasts_S16384x26_S3328x128
  tab := shapeCast S2600000x16 (m (tLoc d)) shapeCasts_S26x100000x16_S2600000x16

/-- The program's result. -/
def result (d : Dev nD) : Buf (Elt F) (resLoc d) := shapeCast S16384x416 (answer (given m) d) shapeCasts_S425984x16_S16384x416

theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (idxLoc d ↦{fullShare} W main_v0)
      ∗ (tabLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the program ends with: its arguments as they were, and its result. -/
abbrev FIN (d : Dev nD) : sProp 𝕄 :=
  iprop((xLoc d ↦{fullShare} m (xLoc d)) ∗ (tLoc d ↦{fullShare} m (tLoc d)) ∗ resLoc d ↦{fullShare} result m d)

/-- The program on device `d`'s TensorCore. -/
theorem hmain (κ : GSem nD τ sig → ℕ) (d : Dev nD) :
    iprop((K (F := F)).ctx EH (P (given m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Hi, Hs, Ho, Hr⟩, Hts, -⟩, -⟩
  iapply (wp_reshape (fun b => m (d, b)) d main_arg0 main_v0 (by decide) rfl shapeCasts_S16384x26_S3328x128 _ _ _ _) $$ [Hb Hx Hi]
  · isplitl [Hb]; · iexact Hb
    isplitl [Hx] <;> iassumption
  iintro ⟨Hb, Hx, Hi⟩
  iapply (wp_reshape (fun b => m (d, b)) d main_arg1 main_v1 (by decide) rfl shapeCasts_S26x100000x16_S2600000x16 _ _ _ _) $$ [Hb Ht Hs]
  · isplitl [Hb]; · iexact Hb
    isplitl [Ht] <;> iassumption
  iintro ⟨Hb, Ht, Hs⟩
  iapply ((K (F := F)).wp_run (D (F := F)) 𝒱 (EH := EH) (P := P (given m)) κ d 0) $$ [Hst Hx Ht Hi Hs Ho Hr Hb Hts]
  isplitr; · iexact Hctx
  isplitl [Hst]; · iexact Hst
  isplitl [Hi Hs Ho]
  · rw [starts_eq]
    isplitl [Hi]; · iexact Hi
    isplitl [Hs]; · iexact Hs
    iapply (out_start d _) $$ Ho
  iintro ⟨Hst, Hdn⟩
  ihave Hdn := (Entails.of_eq (dones_eq (given m) d)) $$ Hdn
  icases Hdn with ⟨-, -, Ho⟩
  iapply (wp_reshape (fun b => m (d, b)) d main_v2 main_v3 (by decide) rfl shapeCasts_S425984x16_S16384x416 _ _ _ _) $$ [Hb Ho Hr]
  · isplitl [Hb]; · iexact Hb
    isplitl [Ho] <;> iassumption
  iintro ⟨Hb, -, Hr⟩
  imodintro
  isplitl [Hst]; · iexact Hst
  isplitl [Hx Ht Hr]
  · isplitl [Hx]; · iexact Hx
    isplitl [Ht]; · iexact Ht
    iexact Hr
  isplitl [Hb] <;> iassumption

/-- What a final memory shows on device `d`. -/
def Shows (d : Dev nD) (mem : (ℓ : Loc nD τ sig) → Buf (Elt F) ℓ) : Prop :=
  mem (xLoc d) = m (xLoc d) ∧ mem (tLoc d) = m (tLoc d) ∧ mem (resLoc d) = result m d

set_option maxRecDepth 16384 in
theorem hfin (d : Dev nD) (s : Phys nD τ sig (Elt F)) : iprop(FIN m d ∗ SI s) ⊢ (⌜Shows m d s.mem.mem⌝ : sProp 𝕄) := by
  iintro ⟨⟨Hx, Ht, Hr⟩, HSI⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s) (ℓ := tLoc d) (I := Finset.univ) (q := fullShare) (f := m (tLoc d)))) $$ [HSI Ht]
  · isplitl [HSI] <;> iassumption
  icases H with ⟨%ht, HSI, -⟩
  ihave H := (SI_pointsTo_agree (st := s) (ℓ := resLoc d) (I := Finset.univ) (q := fullShare) (f := result m d)) $$ [HSI Hr]
  · isplitl [HSI] <;> iassumption
  icases H with %hr
  ipureintro
  exact ⟨funext fun i => hx i (Finset.mem_univ i), funext fun i => ht i (Finset.mem_univ i), funext fun i => hr i (Finset.mem_univ i)⟩

/-- The whole program runs, ends with every semaphore at zero, its arguments unchanged and its result the answer. -/
theorem run_main [∀ e, Nonempty (Elt F e)] (hX : ∀ d, InTable (given m d).idx) :
    θ_run (Cert.KernelIdeal.defs (F := F)) (Cert.KernelIdeal.threads (F := F)) ⟨m, fun _ => 0, ρ⟩
      fun r => (∀ d : Dev nD, Shows m d r.2.mem) ∧ r.2.sem = fun _ => 0 :=
  SparseCore.Cfg.θ_run_sc_quiescent (K := K (F := F)) (D := D (F := F)) (𝒱 := 𝒱) (EH := EH) (P := P (given m)) (A := ∅) facts v₀
    (fun q hq => match q with | 0 => nomatch hq)
    (fun q _ => match q with | 0 => tileObl (given m) hX facts)
    (fun q _ => match q with | 0 => SparseCore.Cfg.VecSplit.of_plain (vecSplit (given m)))
    m ρ main (fun _ => iprop(emp)) (FIN m) (u₀ (F := F)) (sep_elim_left.trans (launch_ghost (given m))) (hmain m ρ)
    (fun d s => Shows m d s.mem.mem) (hfin m) (fun r => (∀ d : Dev nD, Shows m d r.2.mem) ∧ r.2.sem = fun _ => 0) (fun _ h hz => ⟨h, hz⟩)

end Cert.Proof.Lookup
-- ==== Proof.Answer.lean ====
/-
  The function the kernel and the reference both compute, stated once: field `f` of batch row `b` is the row of table `f`
  that the index array names. Here, what the precondition says of the index array, and that the kernel's result, taken
  through its reshapes, is that function.
-/
module

public import proofs.«01_k».proof.Proof.Values
public import proofs.«01_k».proof.Proof.Gen.Pre_in_range
public import Idealize.ShloMosaic.Lib.ReduceAll
public import Idealize.ShloMosaic.Lib.Pipeline.Value

@[expose] public section

noncomputable section

namespace Cert.Proof.Lookup

open Cert.KernelIdeal Cert.KernelIdeal.Gen
open Idealize.ShloMosaic Idealize.SL.Sem
open Idealize.ShloMosaic.ValueIdx

/-- Every index names a row of its field's table. -/
def InRange (x : S16384x26.Idx → BitVec 32) : Prop := ∀ j, (x j).toNat < 100000

/-- A word between 0 and 99999 as a signed number is below 100000 as a plain one. -/
theorem word_lt (w : BitVec 32) (h0 : IntOp.cmpi .sge w 0#32 = 1#1) (h1 : IntOp.cmpi .slt w 100000#32 = 1#1) : w.toNat < 100000 := by
  have bit : ∀ p : Bool, BitVec.ofBool p = 1#1 → p = true := by decide
  have h0 := bit _ h0
  have h1 := bit _ h1
  simp only [BitVec.sle_eq_decide, BitVec.slt_eq_decide, decide_eq_true_eq, BitVec.toInt_eq_toNat_cond, BitVec.toNat_ofNat,
    Nat.reducePow, Nat.reduceMod] at h0 h1
  omega

/-- The precondition, read as a fact about the index array. -/
theorem inRange_of_pre {F : FTy → Type} [FloatOps F] (x : S16384x26.Idx → BitVec 32) (T : FVec F S26x100000x16 .f32)
    (h : Cert.Pre_in_range.fn (F := F) x T = fun _ => 1#1) : InRange x := fun j => by
  haveI : Subsingleton Cert.Pre_in_range.S_.Idx := ⟨fun a b => (eq_ix0 a).trans (eq_ix0 b).symm⟩
  have e := Host.reduce_andi_all _ _ _ _ ix0 (congrFun h ix0) j
  obtain ⟨h0, h1⟩ := IntOp.andi_eq_one.1 e
  exact word_lt _ h0 h1

/-- Under `InRange` the reshaped index array is `InTable`: it holds the same words. -/
theorem inTable_of_inRange {x : S16384x26.Idx → BitVec 32} (hx : InRange x) :
    InTable (shapeCast S3328x128 x shapeCasts_S16384x26_S3328x128) := fun j => hx (Shape.reshapeEquiv shapeCasts_S16384x26_S3328x128 j)

/-- THE ANSWER: element `16 f + l` of row `b` is element `l` of the row of table `f` that `x b f` names. -/
def looked {α : Type} (x : S16384x26.Idx → BitVec 32) (T : S26x100000x16.Idx → α) : S16384x416.Idx → α := fun j =>
  have hq : (j 1).val < 416 := (j 1).isLt
  let f : Fin 26 := ⟨(j 1).val / 16, by omega⟩
  T (ix3 f ⟨(x (ix2 (j 0) f)).toNat % 100000, Nat.mod_lt _ (by decide)⟩ ⟨(j 1).val % 16, Nat.mod_lt _ (by decide)⟩)

/-- The kernel's result, through its reshapes, is the answer. -/
theorem looked_eq {α : Type} {x : S16384x26.Idx → BitVec 32} (hx : InRange x) (T : S26x100000x16.Idx → α) :
    shapeCast S16384x416
      (gathered (shapeCast S3328x128 x shapeCasts_S16384x26_S3328x128) (shapeCast S2600000x16 T shapeCasts_S26x100000x16_S2600000x16))
      shapeCasts_S425984x16_S16384x416 = looked x T := by
  funext j
  obtain ⟨b, q, rfl⟩ : ∃ (b : Fin 16384) (q : Fin 416), j = ix2 b q := ⟨j 0, j 1, eq_ix2 j⟩
  have hb := b.isLt
  have hq := q.isLt
  let f : Fin 26 := ⟨q.val / 16, by omega⟩
  let l : Fin 16 := ⟨q.val % 16, Nat.mod_lt _ (by decide)⟩
  let r : Fin 425984 := ⟨26 * b.val + q.val / 16, by omega⟩
  refine (shapeCast_apply _ _ _ (ix2 r l) ?_).trans ?_
  · rw [Shape.rowMajor_val_two, Shape.rowMajor_val_two]
    show (26 * b.val + q.val / 16) * 16 + q.val % 16 = b.val * 416 + q.val
    omega
  have hw : shapeCast S3328x128 x shapeCasts_S16384x26_S3328x128
      (ix2 ⟨r.val / 128, by omega⟩ ⟨r.val % 128, Nat.mod_lt _ (by decide)⟩) = x (ix2 b f) := by
    refine shapeCast_apply _ _ _ (ix2 b f) ?_
    rw [Shape.rowMajor_val_two, Shape.rowMajor_val_two]
    show b.val * 26 + q.val / 16 = (26 * b.val + q.val / 16) / 128 * 128 + (26 * b.val + q.val / 16) % 128
    omega
  have hx' := hx (ix2 b f)
  have hs : (source (shapeCast S3328x128 x shapeCasts_S16384x26_S3328x128) r).val = (x (ix2 b f)).toNat + q.val / 16 * 100000 := by
    unfold source
    show (moved _ _).toNat % 2600000 = _
    rw [moved_toNat (inTable_of_inRange hx), hw]
    show ((x (ix2 b f)).toNat + (128 * ((26 * b.val + q.val / 16) / 128) + (26 * b.val + q.val / 16) % 128) % 26 * 100000) % 2600000 = _
    have e : (128 * ((26 * b.val + q.val / 16) / 128) + (26 * b.val + q.val / 16) % 128) % 26 = q.val / 16 := by omega
    rw [e]
    omega
  refine shapeCast_apply _ _ (ix2 (source _ r) l) (ix3 f ⟨(x (ix2 b f)).toNat % 100000, Nat.mod_lt _ (by decide)⟩ l) ?_
  rw [Shape.rowMajor_val_two, Shape.rowMajor_val_three]
  show (q.val / 16 * 100000 + (x (ix2 b f)).toNat % 100000) * 16 + q.val % 16 = (source _ r).val * 16 + q.val % 16
  rw [hs]
  omega

end Cert.Proof.Lookup
-- ==== Proof.Reference.lean ====
/-
  The reference's result is the answer: under the precondition no index is wrapped and none is masked, so the gather
  reads the named row of each field's table, and the transpose and the reshape lay the rows out as `looked` does.
-/
module

public import proofs.«01_k».proof.Proof.Answer
public import proofs.«01_k».proof.Proof.Gen.ReferenceIdeal.Run

@[expose] public section

noncomputable section

namespace Cert.Proof.Lookup

open Cert.ReferenceIdeal Cert.ReferenceIdeal.Gen
open Idealize.ShloMosaic Idealize.SL.Sem
open Idealize.ShloMosaic.ValueIdx

/-- A word below 100000 is not negative, and lies between 0 and 99999. -/
theorem word_tests (w : BitVec 32) (h : w.toNat < 100000) :
    IntOp.cmpi .slt w 0#32 = 0#1 ∧ IntOp.cmpi .sge w 0#32 = 1#1 ∧ IntOp.cmpi .sle w 99999#32 = 1#1 := by
  refine ⟨?_, ?_, ?_⟩ <;>
  simp only [IntOp.cmpi, BitVec.sle_eq_decide, BitVec.slt_eq_decide, BitVec.toInt_eq_toNat_cond, BitVec.toNat_ofNat,
    Nat.reducePow, Nat.reduceMod]
  · rw [decide_eq_false (by omega)]; rfl
  · rw [decide_eq_true (by omega)]; rfl
  · rw [decide_eq_true (by omega)]; rfl

/-- As a signed number it is itself. -/
theorem word_toInt (w : BitVec 32) (h : w.toNat < 100000) : w.toInt.toNat = w.toNat := by
  rw [BitVec.toInt_eq_toNat_cond]
  split <;> omega

/-- The gather, read at field `f`, row `b`, lane `l`: lane `l` of table `f`'s row at the index's word, kept within the table. -/
theorem gather_rows {α : Type} (T : S26x100000x16.Idx → α) (i : IVec S26x16384x1 32) (f : Fin 26) (b : Fin 16384) (l : Fin 16) :
    Host.gather gather_S26x100000x16_S26x16384x1_S26x16384x16_2_1_0_0_1_2_1116 T i (ix3 f b l)
      = T (ix3 f ⟨min (i (ix3 f b 0)).toInt.toNat 99999, by omega⟩ l) := by
  let d := gather_S26x100000x16_S26x16384x1_S26x16384x16_2_1_0_0_1_2_1116
  refine congrArg T (funext fun a => Fin.ext ?_)
  show d.start (ix3 f b l) i a + d.batchCoord (ix3 f b l) a + d.offCoord (ix3 f b l) a = _
  have batch : (0 : Fin 3) ∈ d.operandBatchingDims := List.mem_singleton.mpr rfl
  have collapsed : (1 : Fin 3) ∈ d.collapsedSliceDims := List.mem_singleton.mpr rfl
  match a with
  | ⟨0, _⟩ =>
    rw [show (⟨0, _⟩ : Fin 3) = 0 from rfl, d.start_batching _ _ _ batch, d.offCoord_eq_zero _ _ fun h => ((d.mem_sKept _).mp h).2 batch]
    unfold GatherDims.batchCoord
    rw [dif_pos batch]
    exact (Nat.zero_add _).trans (Nat.add_zero _)
  | ⟨1, _⟩ =>
    rw [show (⟨1, _⟩ : Fin 3) = 1 from rfl, d.batchCoord_eq_zero _ _ (by decide), d.offCoord_eq_zero _ _ fun h => ((d.mem_sKept _).mp h).1 collapsed]
    have named : (1 : Fin 3) ∈ d.startIndexMap := List.mem_singleton.mpr rfl
    have at0 : d.siIdx (ix3 f b l) ⟨d.startIndexMap.idxOf 1, List.idxOf_lt_length_iff.2 named⟩ = ix3 f b 0 := by
      refine funext fun c => Fin.ext ?_
      match c with
      | ⟨0, _⟩ => rfl
      | ⟨1, _⟩ => rfl
      | ⟨2, _⟩ => rfl
    unfold GatherDims.start
    rw [dif_pos named, at0]
    rfl
  | ⟨2, _⟩ =>
    rw [show (⟨2, _⟩ : Fin 3) = 2 from rfl, d.batchCoord_eq_zero _ _ (by decide)]
    have unnamed : (2 : Fin 3) ∉ d.startIndexMap := by decide
    have kept : (2 : Fin 3) ∈ d.sKept := (d.mem_sKept _).mpr ⟨by decide, by decide⟩
    unfold GatherDims.start GatherDims.offCoord
    rw [dif_neg unnamed, dif_pos kept]
    exact Nat.zero_add _

section Value
variable {F : FTy → Type} [FloatOps F]
variable (x : S16384x26.Idx → BitVec 32) (T : FVec F S26x100000x16 .f32)

/-- The start indices the reference gathers at: the index array, a negative word moved up by the table's length, by fields. -/
abbrev starts : IVec S26x16384x1 32 :=
  broadcastInDim S26x16384x1 ![0, 1] bcast_S26x16384_S26x16384x1_0_1 (transpose S26x16384 [1, 0]
    (select (cmpi .slt x (broadcastInDim S16384x26 ![] bcast_S_S16384x26 (constantI S_ 32 0#32)))
      (addi x (broadcastInDim S16384x26 ![] bcast_S_S16384x26 (constantI S_ 32 100000#32))) x) transposes_S16384x26_S26x16384_1_0)

/-- Whether each start index lies in its table. -/
abbrev inside : IVec S26x16384x1 1 :=
  andi (cmpi .sge (starts x) (broadcastInDim S26x16384x1 ![] bcast_S_S26x16384x1 (constantI S_ 32 0#32)))
    (cmpi .sle (starts x) (broadcastInDim S26x16384x1 ![0, 1, 2] bcast_S1x1x1_S26x16384x1_0_1_2
      (broadcastInDim S1x1x1 ![2] bcast_S1_S1x1x1_2 (constantI S1 32 99999#32))))

/-- The reference's result, as its operations compose it. -/
abbrev refValue : FVec F S16384x416 .f32 :=
  shapeCast _ (transpose S16384x26x16 [1, 0, 2]
    (select (broadcastInDim S26x16384x16 ![0, 1] bcast_S26x16384_S26x16384x16_0_1
        (Host.reduce IntOp.andi (inside x) (constantI S_ 1 1#1) reducesTo_S26x16384x1_S26x16384_d2 h_S_))
      (Host.gather gather_S26x100000x16_S26x16384x1_S26x16384x16_2_1_0_0_1_2_1116 T (starts x))
      (broadcastInDim S26x16384x16 ![] bcast_S_S26x16384x16 (constant S_ .f32 0x7FC00000#32)))
    transposes_S26x16384x16_S16384x26x16_1_0_2) shapeCasts_S16384x26x16_S16384x416

variable {x} (hx : InRange x)
include hx

theorem starts_apply (f : Fin 26) (b : Fin 16384) (u : Fin 1) : starts x (ix3 f b u) = x (ix2 b f) := by
  refine (broadcastInDim_apply _ _ _ _ (ix2 f b) fun a => ?_).trans ((transpose_ix2_apply _ _ f b).trans ?_)
  · match a with
    | ⟨0, _⟩ => rfl
    | ⟨1, _⟩ => rfl
  · show Scalar.select (IntOp.cmpi .slt (x (ix2 b f)) 0#32) _ (x (ix2 b f)) = _
    rw [(word_tests _ (hx _)).1]
    rfl

theorem inside_apply (k : S26x16384x1.Idx) : inside x k = 1#1 := by
  obtain ⟨f, b, u, rfl⟩ : ∃ (f : Fin 26) (b : Fin 16384) (u : Fin 1), k = ix3 f b u := ⟨k 0, k 1, k 2, eq_ix3 k⟩
  refine IntOp.andi_eq_one.2 ⟨?_, ?_⟩
  · show IntOp.cmpi .sge (starts x (ix3 f b u)) 0#32 = 1#1
    rw [starts_apply hx]
    exact (word_tests _ (hx _)).2.1
  · show IntOp.cmpi .sle (starts x (ix3 f b u)) 99999#32 = 1#1
    rw [starts_apply hx]
    exact (word_tests _ (hx _)).2.2

/-- The reference computes the answer. -/
theorem refValue_eq : refValue x T = looked x T := by
  funext j
  obtain ⟨b, q, rfl⟩ : ∃ (b : Fin 16384) (q : Fin 416), j = ix2 b q := ⟨j 0, j 1, eq_ix2 j⟩
  have hq := q.isLt
  let f : Fin 26 := ⟨q.val / 16, by omega⟩
  let l : Fin 16 := ⟨q.val % 16, Nat.mod_lt _ (by decide)⟩
  refine (shapeCast_apply _ _ _ (ix3 b f l) ?_).trans ?_
  · rw [Shape.rowMajor_val_two, Shape.rowMajor_val_three]
    show (b.val * 26 + q.val / 16) * 16 + q.val % 16 = b.val * 416 + q.val
    omega
  refine (transpose_apply _ _ _ _ (ix3 f b l) fun a => ?_).trans ?_
  · match a with
    | ⟨0, _⟩ => rfl
    | ⟨1, _⟩ => rfl
    | ⟨2, _⟩ => rfl
  have unmasked : broadcastInDim S26x16384x16 ![0, 1] bcast_S26x16384_S26x16384x16_0_1
      (Host.reduce IntOp.andi (inside x) (constantI S_ 1 1#1) reducesTo_S26x16384x1_S26x16384_d2 h_S_) (ix3 f b l) = 1#1 :=
    Host.reduce_andi_one _ _ _ _ _ rfl (inside_apply hx)
  show Scalar.select _ (Host.gather _ T (starts x) (ix3 f b l)) _ = _
  rw [unmasked]
  refine (gather_rows T (starts x) f b l).trans ?_
  refine congrArg (fun n : Fin 100000 => T (ix3 f n l)) (Fin.ext ?_)
  show min (starts x (ix3 f b 0)).toInt.toNat 99999 = (x (ix2 b f)).toNat % 100000
  have h := hx (ix2 b f)
  rw [starts_apply hx, word_toInt _ h]
  omega

end Value

end Cert.Proof.Lookup
-- ==== Proof.lean ====
/-
  The certificate of the embedding lookup: the kernel, bit for bit and at the extended reals, and the reference run to
  the end with their arguments unchanged and every semaphore at zero, and the kernel's result is the reference's.
  The kernel's run is `run_main` (Proof/Launch.lean), the function computed is `looked` (Proof/Answer.lean), and the
  reference's value is read in Proof/Reference.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem
open Cert.Proof.Lookup

/-- The kernel's run at any reading of the floats, from a memory whose index array is in range: its arguments unchanged,
    its result the answer, and every semaphore at zero. -/
theorem kernel_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hx : ∀ d, InRange (m (xLoc d))) :
    θ_run (Cert.KernelIdeal.defs (F := F)) (Cert.KernelIdeal.threads (F := F)) ⟨m, fun _ => 0, ρ⟩ fun r =>
      (∀ d : Dev Cert.KernelIdeal.nD, r.2.mem (xLoc d) = m (xLoc d) ∧ r.2.mem (tLoc d) = m (tLoc d)
        ∧ r.2.mem (resLoc d) = looked (m (xLoc d)) (m (tLoc d))) ∧ r.2.sem = fun _ => 0 :=
  (θ_run _ _ _).mono (fun _ h => ⟨fun d => ⟨(h.1 d).1, (h.1 d).2.1, (h.1 d).2.2.trans (looked_eq (hx d) _)⟩, h.2⟩)
    (run_main m ρ fun d => inTable_of_inRange (hx d))

/-- The kernel, bit for bit, runs to the end with its arguments unchanged. -/
theorem frame_kernel : Cert.quiescent_Kernel := fun m ρ pre =>
  (θ_run Cert.KernelIdeal.defs _ _).mono (fun _ h => ⟨fun d => ⟨(h.1 d).1, (h.1 d).2.1⟩, h.2⟩)
    (kernel_run (F := Bits) m ρ fun d => inRange_of_pre _ _ (pre d))

/-- So does the kernel at the extended reals. -/
theorem frame_ideal : Cert.quiescent_KernelIdeal := fun m ρ pre =>
  (θ_run Cert.KernelIdeal.defs _ _).mono (fun _ h => ⟨fun d => ⟨(h.1 d).1, (h.1 d).2.1⟩, h.2⟩)
    (kernel_run (F := Ideal) m ρ fun d => inRange_of_pre _ _ (pre d))

/-- So does the reference, which declares no semaphore. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- The reference's run, from a memory whose index array is in range: its result is the answer. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (x : Dev Cert.ReferenceIdeal.nD → Cert.ReferenceIdeal.S16384x26.Idx → BitVec 32)
    (T : Dev Cert.ReferenceIdeal.nD → FVec Ideal Cert.ReferenceIdeal.S26x100000x16 .f32)
    (hmx : ∀ d : Dev Cert.ReferenceIdeal.nD, m ((d.tc : Thread Cert.ReferenceIdeal.nD Cert.ReferenceIdeal.τ).loc Cert.ReferenceIdeal.main_arg0) = x d)
    (hmT : ∀ d : Dev Cert.ReferenceIdeal.nD, m ((d.tc : Thread Cert.ReferenceIdeal.nD Cert.ReferenceIdeal.τ).loc Cert.ReferenceIdeal.main_arg1) = T d)
    (hx : ∀ d, InRange (x d)) :
    θ_run (Cert.ReferenceIdeal.defs (F := Ideal)) (onTc (τ := Cert.ReferenceIdeal.τ) (Cert.ReferenceIdeal.main (F := Ideal))) ⟨m, fun _ => 0, ρ⟩ fun r =>
      ∀ d : Dev Cert.ReferenceIdeal.nD,
        r.2.mem ((d.tc : Thread Cert.ReferenceIdeal.nD Cert.ReferenceIdeal.τ).loc Cert.ReferenceIdeal.main_v2) = looked (x d) (T d)
        ∧ r.2.mem ((d.tc : Thread Cert.ReferenceIdeal.nD Cert.ReferenceIdeal.τ).loc Cert.ReferenceIdeal.main_arg0) = m ((d.tc : Thread Cert.ReferenceIdeal.nD Cert.ReferenceIdeal.τ).loc Cert.ReferenceIdeal.main_arg0)
        ∧ r.2.mem ((d.tc : Thread Cert.ReferenceIdeal.nD Cert.ReferenceIdeal.τ).loc Cert.ReferenceIdeal.main_arg1) = m ((d.tc : Thread Cert.ReferenceIdeal.nD Cert.ReferenceIdeal.τ).loc Cert.ReferenceIdeal.main_arg1) := by
  refine (θ_run Cert.ReferenceIdeal.defs _ _).mono (fun _ h d => ⟨(h d).1.trans ?_, (h d).2⟩) (Cert.ReferenceIdeal.Value.run (F := Ideal) m ρ)
  rw [hmx d, hmT d]
  exact refValue_eq (F := Ideal) (T d) (hx d)

/-- From the same arguments the kernel and the reference end with the same result. -/
theorem same_result : Cert.algebraic_KernelIdeal_ReferenceIdeal := by
  intro m ρ m' ρ' pre same
  have hx : ∀ d, InRange (m (xLoc d)) := fun d => inRange_of_pre _ _ (pre d)
  refine ⟨fun d => looked (m (xLoc d)) (m (tLoc d)), ?_, ?_⟩
  · exact (θ_run Cert.KernelIdeal.defs _ _).mono (fun _ h d => ⟨(h.1 d).2.2, (h.1 d).1, (h.1 d).2.1⟩) (kernel_run (F := Ideal) m ρ hx)
  · exact reference_run m' ρ' (fun d => m (xLoc d)) (fun d => m (tLoc d)) (fun d => (same d).1) (fun d => (same d).2) hx

theorem claim : Cert.Claim :=
  ⟨Cert.Kernel.Gen.facts, Cert.KernelIdeal.Gen.facts, Cert.ReferenceIdeal.Gen.facts, Cert.Pre_in_range.Gen.facts,
    frame_kernel, frame_ideal, frame_reference, trivial, same_result⟩

end Cert.Proof

end
